-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_are_classes [hPre_labels_are_classes : Cert.Pre_labels_are_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_are_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_are_classes [hPre_labels_are_classes : Cert.Pre_labels_are_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_are_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_are_classes [hKernelIdeal : Cert.KernelIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_are_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_are_classes [hReferenceIdeal : Cert.ReferenceIdeal.Facts] [hPre_labels_are_classes : Cert.Pre_labels_are_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_are_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_labels_are_classes [hKernelIdeal : Cert.KernelIdeal.Facts] [hReferenceIdeal : Cert.ReferenceIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_are_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v282) = v1 c
          ∧ r.2.mem ((c.tc : Thread Cert.ReferenceIdeal.nD Cert.ReferenceIdeal.τ).loc Cert.ReferenceIdeal.main_v286) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_are_classes : Cert.Pre_labels_are_classes.Facts),
    quiescent_Kernel (hKernel := hKernel)
    ∧ quiescent_KernelIdeal (hKernelIdeal := hKernelIdeal)
    ∧ quiescent_KernelIdeal_pre_labels_are_classes (hKernelIdeal := hKernelIdeal) (hPre_labels_are_classes := hPre_labels_are_classes)
    ∧ quiescent_ReferenceIdeal (hReferenceIdeal := hReferenceIdeal)
    ∧ quiescent_ReferenceIdeal_pre_labels_are_classes (hReferenceIdeal := hReferenceIdeal) (hPre_labels_are_classes := hPre_labels_are_classes)
    ∧ preserves_Kernel_KernelIdeal
    ∧ algebraic_KernelIdeal_ReferenceIdeal_pre_labels_are_classes (hKernelIdeal := hKernelIdeal) (hReferenceIdeal := hReferenceIdeal) (hPre_labels_are_classes := hPre_labels_are_classes)
-- ==== Pre_labels_are_classes.lean ====
abbrev S8x20000x1 : Shape := ⟨3, ![8, 20000, 1]⟩
abbrev S8x20000x80 : Shape := ⟨3, ![8, 20000, 80]⟩
abbrev S8x20000x4 : Shape := ⟨3, ![8, 20000, 4]⟩
abbrev S1x20000x4 : Shape := ⟨3, ![1, 20000, 4]⟩
abbrev S8x100x6 : Shape := ⟨3, ![8, 100, 6]⟩
abbrev S8x100x1 : Shape := ⟨3, ![8, 100, 1]⟩
abbrev S8x100 : Shape := ⟨2, ![8, 100]⟩
abbrev S_ : Shape := ⟨0, ![]⟩

class Facts : Prop where
  slices_S8x100x6_S8x100x1_0_0_4 : S8x100x6.Slices ![0, 0, 4] S8x100x1
  shapeCasts_S8x100x1_S8x100 : S8x100x1.ShapeCasts S8x100
  bcast_S_S8x100 : S_.BroadcastsInDim S8x100 (![] : Fin 0 → Fin S8x100.rank)

variable [Facts]

def fn {F : FTy → Type} [FloatOps F] (main_arg0 : FVec F S8x20000x1 .f32) (main_arg1 : FVec F S8x20000x80 .f32) (main_arg2 : FVec F S8x20000x4 .f32) (main_arg3 : FVec F S1x20000x4 .f32) (main_arg4 : FVec F S8x100x6 .f32) : IVec S8x100 1 :=
  let main_v0 : FVec F S8x100x1 .f32 := (extractStridedSlice S8x100x1 ![0, 0, 4] · slices_S8x100x6_S8x100x1_0_0_4) main_arg4
  let main_v1 : FVec F S8x100 .f32 := shapeCast S8x100 main_v0 shapeCasts_S8x100x1_S8x100
  let main_v2 : IVec S8x100 32 := fptosi 32 main_v1
  let main_c : IVec S_ 32 := constantI S_ 32 0#32
  let main_v3 : IVec S8x100 32 := broadcastInDim S8x100 ![] bcast_S_S8x100 main_c
  let main_v4 : IVec S8x100 1 := cmpi .sge main_v2 main_v3
  let main_c_0 : IVec S_ 32 := constantI S_ 32 80#32
  let main_v5 : IVec S8x100 32 := broadcastInDim S8x100 ![] bcast_S_S8x100 main_c_0
  let main_v6 : IVec S8x100 1 := cmpi .slt main_v2 main_v5
  let main_v7 : IVec S8x100 1 := andi main_v4 main_v6
  main_v7
-- ==== Kernel.lean ====
abbrev S8x20000x1 : Shape := ⟨3, ![8, 20000, 1]⟩
abbrev S8x20000x80 : Shape := ⟨3, ![8, 20000, 80]⟩
abbrev S8x20000x4 : Shape := ⟨3, ![8, 20000, 4]⟩
abbrev S1x20000x4 : Shape := ⟨3, ![1, 20000, 4]⟩
abbrev S8x100x6 : Shape := ⟨3, ![8, 100, 6]⟩
abbrev S8x8x1x2500 : Shape := ⟨4, ![8, 8, 1, 2500]⟩
abbrev S8x8x2500x80 : Shape := ⟨4, ![8, 8, 2500, 80]⟩
abbrev S8x8x2500x4 : Shape := ⟨4, ![8, 8, 2500, 4]⟩
abbrev S8x8x4x2500 : Shape := ⟨4, ![8, 8, 4, 2500]⟩
abbrev S1x8x2500x4 : Shape := ⟨4, ![1, 8, 2500, 4]⟩
abbrev S1x8x4x2500 : Shape := ⟨4, ![1, 8, 4, 2500]⟩
abbrev S8x6x100 : Shape := ⟨3, ![8, 6, 100]⟩
abbrev S8x1x1 : Shape := ⟨3, ![8, 1, 1]⟩
abbrev S8x1x1x2500 : Shape := ⟨4, ![8, 1, 1, 2500]⟩
abbrev S8x1x2500x80 : Shape := ⟨4, ![8, 1, 2500, 80]⟩
abbrev S8x1x4x2500 : Shape := ⟨4, ![8, 1, 4, 2500]⟩
abbrev S1x1x4x2500 : Shape := ⟨4, ![1, 1, 4, 2500]⟩
abbrev S4x2500 : Shape := ⟨2, ![4, 2500]⟩
abbrev S1x1x1x2500 : Shape := ⟨4, ![1, 1, 1, 2500]⟩
abbrev S1x2500 : Shape := ⟨2, ![1, 2500]⟩
abbrev S1x1x2500x80 : Shape := ⟨4, ![1, 1, 2500, 80]⟩
abbrev S2500x80 : Shape := ⟨2, ![2500, 80]⟩
abbrev S1x100x6 : Shape := ⟨3, ![1, 100, 6]⟩
abbrev S100x6 : Shape := ⟨2, ![100, 6]⟩
abbrev S1x6x100 : Shape := ⟨3, ![1, 6, 100]⟩
abbrev S6x100 : Shape := ⟨2, ![6, 100]⟩
abbrev S100x1 : Shape := ⟨2, ![100, 1]⟩
abbrev S100x2500 : Shape := ⟨2, ![100, 2500]⟩
abbrev S2500 : Shape := ⟨1, ![2500]⟩
abbrev S6x2500 : Shape := ⟨2, ![6, 2500]⟩
abbrev S1x1x2500 : Shape := ⟨3, ![1, 1, 2500]⟩
abbrev S1 : Shape := ⟨1, ![1]⟩
abbrev S1x1x1 : Shape := ⟨3, ![1, 1, 1]⟩
abbrev S2500x1 : Shape := ⟨2, ![2500, 1]⟩
abbrev S80x1 : Shape := ⟨2, ![80, 1]⟩
abbrev S1x1 : Shape := ⟨2, ![1, 1]⟩
abbrev S8 : Shape := ⟨1, ![8]⟩
abbrev S_ : Shape := ⟨0, ![]⟩

abbrev nBuf : Space → Nat
  | .hbm => 55
  | .vmem => 15
  | .smem => 0
  | _ => 0

abbrev bufTy : (tb : Table) → Fin (tcTables nBuf tb) → BufTy
  | .hbm, ⟨0, _⟩ => ⟨S8x20000x1, .f32⟩
  | .hbm, ⟨1, _⟩ => ⟨S8x20000x80, .f32⟩
  | .hbm, ⟨2, _⟩ => ⟨S8x20000x4, .f32⟩
  | .hbm, ⟨3, _⟩ => ⟨S1x20000x4, .f32⟩
  | .hbm, ⟨4, _⟩ => ⟨S8x100x6, .f32⟩
  | .hbm, ⟨5, _⟩ => ⟨S8x8x1x2500, .f32⟩
  | .hbm, ⟨6, _⟩ => ⟨S8x8x2500x80, .f32⟩
  | .hbm, ⟨7, _⟩ => ⟨S8x8x2500x4, .f32⟩
  | .hbm, ⟨8, _⟩ => ⟨S8x8x4x2500, .f32⟩
  | .hbm, ⟨9, _⟩ => ⟨S1x8x2500x4, .f32⟩
  | .hbm, ⟨10, _⟩ => ⟨S1x8x4x2500, .f32⟩
  | .hbm, ⟨11, _⟩ => ⟨S8x6x100, .f32⟩
  | .hbm, ⟨12, _⟩ => ⟨S8x1x1, .f32⟩
  | .hbm, ⟨13, _⟩ => ⟨S8x1x1, .f32⟩
  | .hbm, ⟨14, _⟩ => ⟨S8x1x1, .f32⟩
  | .hbm, ⟨15, _⟩ => ⟨S8x1x1, .f32⟩
  | .hbm, ⟨16, _⟩ => ⟨S8x1x1, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S1, .f32⟩
  | .hbm, ⟨54, _⟩ => ⟨S1, .f32⟩
  | .local _ .vmem, ⟨0, _⟩ => ⟨S8x1x1x2500, .f32⟩
  | .local _ .vmem, ⟨1, _⟩ => ⟨S8x1x1x2500, .f32⟩
  | .local _ .vmem, ⟨2, _⟩ => ⟨S8x1x2500x80, .f32⟩
  | .local _ .vmem, ⟨3, _⟩ => ⟨S8x1x2500x80, .f32⟩
  | .local _ .vmem, ⟨4, _⟩ => ⟨S8x1x4x2500, .f32⟩
  | .local _ .vmem, ⟨5, _⟩ => ⟨S8x1x4x2500, .f32⟩
  | .local _ .vmem, ⟨6, _⟩ => ⟨S1x1x4x2500, .f32⟩
  | .local _ .vmem, ⟨7, _⟩ => ⟨S1x1x4x2500, .f32⟩
  | .local _ .vmem, ⟨8, _⟩ => ⟨S8x100x6, .f32⟩
  | .local _ .vmem, ⟨9, _⟩ => ⟨S8x6x100, .f32⟩
  | .local _ .vmem, ⟨10, _⟩ => ⟨S8x1x1, .f32⟩
  | .local _ .vmem, ⟨11, _⟩ => ⟨S8x1x1, .f32⟩
  | .local _ .vmem, ⟨12, _⟩ => ⟨S8x1x1, .f32⟩
  | .local _ .vmem, ⟨13, _⟩ => ⟨S8x1x1, .f32⟩
  | .local _ .vmem, ⟨14, _⟩ => ⟨S8x1x1, .f32⟩
  | _, _ => ⟨S8x20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v2300 : BitVec 1 := Scalar.cmpi .eq arg1 c0_i32
  let v2301 : BitVec 32 := Scalar.extui v2300
  let c0_i32_690 : BitVec 32 := 0#32
  let v2302 : BitVec 1 := Scalar.cmpi .ne v2301 c0_i32_690
  v2302

def k0_cond2 (i : grid0.Coords) : BitVec 1 :=
  let arg1 : BitVec 32 := BitVec.ofNat 32 (i 1).val
  let c0_i32_691 : BitVec 32 := 0#32
  let v2303 : BitVec 1 := Scalar.cmpi .ne arg1 c0_i32_691
  let v2304 : BitVec 32 := Scalar.extui v2303
  let c0_i32_692 : BitVec 32 := 0#32
  let v2305 : BitVec 1 := Scalar.cmpi .ne v2304 c0_i32_692
  v2305

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x1x2500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x2500x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x4x2500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x2500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x100x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x6x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S8x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S8x20000x1 : Shape := ⟨3, ![8, 20000, 1]⟩
abbrev S8x20000x80 : Shape := ⟨3, ![8, 20000, 80]⟩
abbrev S8x20000x4 : Shape := ⟨3, ![8, 20000, 4]⟩
abbrev S1x20000x4 : Shape := ⟨3, ![1, 20000, 4]⟩
abbrev S8x100x6 : Shape := ⟨3, ![8, 100, 6]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S8x100x4 : Shape := ⟨3, ![8, 100, 4]⟩
abbrev S8x100x1 : Shape := ⟨3, ![8, 100, 1]⟩
abbrev S8x100 : Shape := ⟨2, ![8, 100]⟩
abbrev S8x1x100 : Shape := ⟨3, ![8, 1, 100]⟩
abbrev S1x20000x1 : Shape := ⟨3, ![1, 20000, 1]⟩
abbrev S8x20000x100 : Shape := ⟨3, ![8, 20000, 100]⟩
abbrev S8x20000 : Shape := ⟨2, ![8, 20000]⟩
abbrev S8x20000x6 : Shape := ⟨3, ![8, 20000, 6]⟩
abbrev S8 : Shape := ⟨1, ![8]⟩
abbrev S20000x80 : Shape := ⟨2, ![20000, 80]⟩
abbrev S1x80 : Shape := ⟨2, ![1, 80]⟩
abbrev S1x1x80 : Shape := ⟨3, ![1, 1, 80]⟩
abbrev S1x20000 : Shape := ⟨2, ![1, 20000]⟩
abbrev S1 : Shape := ⟨1, ![1]⟩

abbrev nBuf : Space → Nat
  | .hbm => 418
  | .vmem => 0
  | .smem => 0
  | _ => 0

abbrev hbmTy0_0 (i : Nat) : BufTy := match i % 128 with
  | 0 => ⟨S8x20000x1, .f32⟩
  | 1 => ⟨S8x20000x80, .f32⟩
  | 2 => ⟨S8x20000x4, .f32⟩
  | 3 => ⟨S1x20000x4, .f32⟩
  | 4 => ⟨S8x100x6, .f32⟩
  | 5 => ⟨S20000x4, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S20000x1, .f32⟩
  | 12 => ⟨S20000, .f32⟩
  | 13 => ⟨S20000x1, .f32⟩
  | 14 => ⟨S20000, .f32⟩
  | 15 => ⟨S20000, .f32⟩
  | 16 => ⟨S20000x1, .f32⟩
  | 17 => ⟨S20000, .f32⟩
  | 18 => ⟨S_, .f32⟩
  | 19 => ⟨S20000, .f32⟩
  | 20 => ⟨S20000, .f32⟩
  | 21 => ⟨S20000, .f32⟩
  | 22 => ⟨S20000x1, .f32⟩
  | 23 => ⟨S20000, .f32⟩
  | 24 => ⟨S_, .f32⟩
  | 25 => ⟨S20000, .f32⟩
  | 26 => ⟨S20000, .f32⟩
  | 27 => ⟨S20000, .f32⟩
  | 28 => ⟨S_, .f32⟩
  | 29 => ⟨S_, .f32⟩
  | 30 => ⟨S_, .f32⟩
  | 31 => ⟨S8x20000x1, .f32⟩
  | 32 => ⟨S8x20000x1, .f32⟩
  | 33 => ⟨S_, .f32⟩
  | 34 => ⟨S8x20000x1, .f32⟩
  | 35 => ⟨S8x20000x1, .f32⟩
  | 36 => ⟨S_, .f32⟩
  | 37 => ⟨S_, .f32⟩
  | 38 => ⟨S_, .f32⟩
  | 39 => ⟨S8x20000x80, .f32⟩
  | 40 => ⟨S8x20000x80, .f32⟩
  | 41 => ⟨S_, .f32⟩
  | 42 => ⟨S8x20000x80, .f32⟩
  | 43 => ⟨S8x20000x80, .f32⟩
  | 44 => ⟨S8x100x4, .f32⟩
  | 45 => ⟨S8x100x1, .f32⟩
  | 46 => ⟨S8x100, .f32⟩
  | 47 => ⟨S8x100x1, .f32⟩
  | 48 => ⟨S8x100, .f32⟩
  | 49 => ⟨S8x100, .f32⟩
  | 50 => ⟨S8x100x1, .f32⟩
  | 51 => ⟨S8x100, .f32⟩
  | 52 => ⟨S8x100x1, .f32⟩
  | 53 => ⟨S8x100, .f32⟩
  | 54 => ⟨S8x100, .f32⟩
  | 55 => ⟨S8x100, .f32⟩
  | 56 => ⟨S20000x1, .f32⟩
  | 57 => ⟨S20000, .f32⟩
  | 58 => ⟨S20000x1, .f32⟩
  | 59 => ⟨S8x100x1, .f32⟩
  | 60 => ⟨S8x100, .f32⟩
  | 61 => ⟨S8x1x100, .f32⟩
  | 62 => ⟨S1x20000x1, .f32⟩
  | 63 => ⟨S8x20000x100, .f32⟩
  | 64 => ⟨S8x20000x100, .f32⟩
  | 65 => ⟨S8x20000x100, .f32⟩
  | 66 => ⟨S20000x1, .f32⟩
  | 67 => ⟨S20000, .f32⟩
  | 68 => ⟨S20000x1, .f32⟩
  | 69 => ⟨S8x100x1, .f32⟩
  | 70 => ⟨S8x100, .f32⟩
  | 71 => ⟨S8x1x100, .f32⟩
  | 72 => ⟨S1x20000x1, .f32⟩
  | 73 => ⟨S8x20000x100, .f32⟩
  | 74 => ⟨S8x20000x100, .f32⟩
  | 75 => ⟨S8x20000x100, .f32⟩
  | 76 => ⟨S8x20000x100, .f32⟩
  | 77 => ⟨S20000x1, .f32⟩
  | 78 => ⟨S20000, .f32⟩
  | 79 => ⟨S20000x1, .f32⟩
  | 80 => ⟨S8x100x1, .f32⟩
  | 81 => ⟨S8x100, .f32⟩
  | 82 => ⟨S8x1x100, .f32⟩
  | 83 => ⟨S1x20000x1, .f32⟩
  | 84 => ⟨S8x20000x100, .f32⟩
  | 85 => ⟨S8x20000x100, .f32⟩
  | 86 => ⟨S8x20000x100, .f32⟩
  | 87 => ⟨S20000x1, .f32⟩
  | 88 => ⟨S20000, .f32⟩
  | 89 => ⟨S20000x1, .f32⟩
  | 90 => ⟨S8x100x1, .f32⟩
  | 91 => ⟨S8x100, .f32⟩
  | 92 => ⟨S8x1x100, .f32⟩
  | 93 => ⟨S1x20000x1, .f32⟩
  | 94 => ⟨S8x20000x100, .f32⟩
  | 95 => ⟨S8x20000x100, .f32⟩
  | 96 => ⟨S8x20000x100, .f32⟩
  | 97 => ⟨S8x20000x100, .f32⟩
  | 98 => ⟨S_, .f32⟩
  | 99 => ⟨S_, .f32⟩
  | 100 => ⟨S8x20000x100, .f32⟩
  | 101 => ⟨S8x20000x100, .f32⟩
  | 102 => ⟨S_, .f32⟩
  | 103 => ⟨S_, .f32⟩
  | 104 => ⟨S8x20000x100, .f32⟩
  | 105 => ⟨S8x20000x100, .f32⟩
  | 106 => ⟨S20000x1, .f32⟩
  | 107 => ⟨S20000, .f32⟩
  | 108 => ⟨S20000x1, .f32⟩
  | 109 => ⟨S20000, .f32⟩
  | 110 => ⟨S20000, .f32⟩
  | 111 => ⟨S20000x1, .f32⟩
  | 112 => ⟨S20000, .f32⟩
  | 113 => ⟨S20000x1, .f32⟩
  | 114 => ⟨S20000, .f32⟩
  | 115 => ⟨S20000, .f32⟩
  | 116 => ⟨S20000, .f32⟩
  | 117 => ⟨S20000x1, .f32⟩
  | 118 => ⟨S8x1x100, .f32⟩
  | 119 => ⟨S1x20000x1, .f32⟩
  | 120 => ⟨S8x20000x100, .f32⟩
  | 121 => ⟨S8x20000x100, .f32⟩
  | 122 => ⟨S8x20000x100, .f32⟩
  | 123 => ⟨S8x20000x100, .f32⟩
  | 124 => ⟨S8x20000x100, .f32⟩
  | 125 => ⟨S_, .f32⟩
  | 126 => ⟨S_, .f32⟩
  | 127 => ⟨S8x20000x100, .f32⟩
  | _ => ⟨S8x20000x1, .f32⟩

abbrev hbmTy0_1 (i : Nat) : BufTy := match i % 128 with
  | 0 => ⟨S8x20000x100, .f32⟩
  | 1 => ⟨S8x20000x100, .f32⟩
  | 2 => ⟨S8x20000x100, .f32⟩
  | 3 => ⟨S_, .f32⟩
  | 4 => ⟨S8x20000, .f32⟩
  | 5 => ⟨S8x20000x100, .i32⟩
  | 6 => ⟨S_, .f32⟩
  | 7 => ⟨S_, .i32⟩
  | 8 => ⟨S8x20000, .f32⟩
  | 9 => ⟨S8x20000, .i32⟩
  | 10 => ⟨S_, .i32⟩
  | 11 => ⟨S8x20000, .i32⟩
  | 12 => ⟨S8x20000, .i1⟩
  | 13 => ⟨S_, .i32⟩
  | 14 => ⟨S8x20000, .i32⟩
  | 15 => ⟨S8x20000, .i32⟩
  | 16 => ⟨S8x20000, .i32⟩
  | 17 => ⟨S8x20000x1, .i32⟩
  | 18 => ⟨S8x20000x6, .f32⟩
  | 19 => ⟨S_, .f32⟩
  | 20 => ⟨S8x20000, .f32⟩
  | 21 => ⟨S8x20000, .i1⟩
  | 22 => ⟨S_, .f32⟩
  | 23 => ⟨S8x20000, .f32⟩
  | 24 => ⟨S8x20000, .i1⟩
  | 25 => ⟨S8x20000, .i32⟩
  | 26 => ⟨S_, .i32⟩
  | 27 => ⟨S8, .i32⟩
  | 28 => ⟨S8, .f32⟩
  | 29 => ⟨S8x20000, .i32⟩
  | 30 => ⟨S_, .i32⟩
  | 31 => ⟨S8, .i32⟩
  | 32 => ⟨S8, .f32⟩
  | 33 => ⟨S_, .f32⟩
  | 34 => ⟨S20000x80, .f32⟩
  | 35 => ⟨S_, .f32⟩
  | 36 => ⟨S8x20000, .f32⟩
  | 37 => ⟨S8x20000, .i1⟩
  | 38 => ⟨S8x20000x1, .i1⟩
  | 39 => ⟨S_, .f32⟩
  | 40 => ⟨S_, .f32⟩
  | 41 => ⟨S8x20000x80, .i1⟩
  | 42 => ⟨S20000x80, .f32⟩
  | 43 => ⟨S8x20000x80, .f32⟩
  | 44 => ⟨S8x20000x80, .f32⟩
  | 45 => ⟨S8x20000x80, .f32⟩
  | 46 => ⟨S8x20000x1, .i1⟩
  | 47 => ⟨S_, .f32⟩
  | 48 => ⟨S_, .f32⟩
  | 49 => ⟨S8x20000x80, .i1⟩
  | 50 => ⟨S20000x80, .f32⟩
  | 51 => ⟨S8x20000x80, .f32⟩
  | 52 => ⟨S8x20000x80, .f32⟩
  | 53 => ⟨S8x20000x1, .f32⟩
  | 54 => ⟨S8x20000, .f32⟩
  | 55 => ⟨S8x20000, .i32⟩
  | 56 => ⟨S8x20000x1, .i32⟩
  | 57 => ⟨S1x80, .i32⟩
  | 58 => ⟨S1x1x80, .i32⟩
  | 59 => ⟨S8x20000x80, .i32⟩
  | 60 => ⟨S8x20000x80, .i32⟩
  | 61 => ⟨S8x20000x80, .i1⟩
  | 62 => ⟨S8x20000x80, .f32⟩
  | 63 => ⟨S8x20000x1, .i1⟩
  | 64 => ⟨S8x20000x80, .i1⟩
  | 65 => ⟨S8x20000x80, .f32⟩
  | 66 => ⟨S_, .f32⟩
  | 67 => ⟨S20000x1, .f32⟩
  | 68 => ⟨S8x20000x1, .f32⟩
  | 69 => ⟨S8x20000, .f32⟩
  | 70 => ⟨S_, .f32⟩
  | 71 => ⟨S8x20000, .f32⟩
  | 72 => ⟨S8x20000, .i1⟩
  | 73 => ⟨S8x20000, .i1⟩
  | 74 => ⟨S8x20000x1, .i1⟩
  | 75 => ⟨S_, .f32⟩
  | 76 => ⟨S_, .f32⟩
  | 77 => ⟨S20000x1, .f32⟩
  | 78 => ⟨S8x20000x1, .f32⟩
  | 79 => ⟨S8x20000x1, .f32⟩
  | 80 => ⟨S8x20000x1, .f32⟩
  | 81 => ⟨S8x20000x1, .f32⟩
  | 82 => ⟨S8x20000, .f32⟩
  | 83 => ⟨S_, .f32⟩
  | 84 => ⟨S8x20000, .f32⟩
  | 85 => ⟨S8x20000, .i1⟩
  | 86 => ⟨S8x20000, .i1⟩
  | 87 => ⟨S8x20000x1, .i1⟩
  | 88 => ⟨S_, .f32⟩
  | 89 => ⟨S_, .f32⟩
  | 90 => ⟨S20000x1, .f32⟩
  | 91 => ⟨S8x20000x1, .f32⟩
  | 92 => ⟨S8x20000x1, .f32⟩
  | 93 => ⟨S_, .f32⟩
  | 94 => ⟨S8x20000x80, .f32⟩
  | 95 => ⟨S8x20000x80, .i1⟩
  | 96 => ⟨S_, .f32⟩
  | 97 => ⟨S_, .f32⟩
  | 98 => ⟨S20000x80, .f32⟩
  | 99 => ⟨S20000x80, .f32⟩
  | 100 => ⟨S8x20000x80, .f32⟩
  | 101 => ⟨S8x20000x80, .f32⟩
  | 102 => ⟨S8x20000x80, .f32⟩
  | 103 => ⟨S_, .f32⟩
  | 104 => ⟨S8x20000x1, .f32⟩
  | 105 => ⟨S8x20000x1, .i1⟩
  | 106 => ⟨S_, .f32⟩
  | 107 => ⟨S_, .f32⟩
  | 108 => ⟨S20000x1, .f32⟩
  | 109 => ⟨S20000x1, .f32⟩
  | 110 => ⟨S8x20000x1, .f32⟩
  | 111 => ⟨S8x20000x1, .f32⟩
  | 112 => ⟨S8x20000x1, .f32⟩
  | 113 => ⟨S_, .f32⟩
  | 114 => ⟨S8x20000x80, .f32⟩
  | 115 => ⟨S8x20000x80, .i1⟩
  | 116 => ⟨S_, .f32⟩
  | 117 => ⟨S8x20000x80, .f32⟩
  | 118 => ⟨S8x20000x80, .f32⟩
  | 119 => ⟨S8x20000x80, .f32⟩
  | 120 => ⟨S_, .f32⟩
  | 121 => ⟨S8x20000x80, .f32⟩
  | 122 => ⟨S8x20000x80, .f32⟩
  | 123 => ⟨S8x20000x80, .f32⟩
  | 124 => ⟨S8x20000x80, .f32⟩
  | 125 => ⟨S_, .f32⟩
  | 126 => ⟨S8x20000x1, .f32⟩
  | 127 => ⟨S8x20000x1, .i1⟩
  | _ => ⟨S8x20000x1, .f32⟩

abbrev hbmTy0_2 (i : Nat) : BufTy := match i % 128 with
  | 0 => ⟨S_, .f32⟩
  | 1 => ⟨S8x20000x1, .f32⟩
  | 2 => ⟨S8x20000x1, .f32⟩
  | 3 => ⟨S8x20000x1, .f32⟩
  | 4 => ⟨S_, .f32⟩
  | 5 => ⟨S8x20000x1, .f32⟩
  | 6 => ⟨S8x20000x1, .f32⟩
  | 7 => ⟨S8x20000x1, .f32⟩
  | 8 => ⟨S8x20000x1, .f32⟩
  | 9 => ⟨S8x20000x80, .f32⟩
  | 10 => ⟨S8x20000x80, .f32⟩
  | 11 => ⟨S_, .f32⟩
  | 12 => ⟨S8x20000x80, .f32⟩
  | 13 => ⟨S8x20000x80, .f32⟩
  | 14 => ⟨S_, .f32⟩
  | 15 => ⟨S8x20000x80, .f32⟩
  | 16 => ⟨S8x20000x80, .f32⟩
  | 17 => ⟨S8x20000x80, .f32⟩
  | 18 => ⟨S8x20000x80, .f32⟩
  | 19 => ⟨S8x20000x80, .f32⟩
  | 20 => ⟨S8x20000x80, .f32⟩
  | 21 => ⟨S8x20000x1, .f32⟩
  | 22 => ⟨S8x20000x1, .f32⟩
  | 23 => ⟨S_, .f32⟩
  | 24 => ⟨S8x20000x1, .f32⟩
  | 25 => ⟨S8x20000x1, .f32⟩
  | 26 => ⟨S_, .f32⟩
  | 27 => ⟨S8x20000x1, .f32⟩
  | 28 => ⟨S8x20000x1, .f32⟩
  | 29 => ⟨S8x20000x1, .f32⟩
  | 30 => ⟨S8x20000x1, .f32⟩
  | 31 => ⟨S8x20000x1, .f32⟩
  | 32 => ⟨S8x20000x1, .f32⟩
  | 33 => ⟨S_, .f32⟩
  | 34 => ⟨S8x20000x80, .f32⟩
  | 35 => ⟨S8x20000x80, .i1⟩
  | 36 => ⟨S8x20000x80, .f32⟩
  | 37 => ⟨S_, .f32⟩
  | 38 => ⟨S_, .f32⟩
  | 39 => ⟨S20000x80, .f32⟩
  | 40 => ⟨S8x20000x80, .f32⟩
  | 41 => ⟨S8x20000x80, .f32⟩
  | 42 => ⟨S_, .f32⟩
  | 43 => ⟨S8x20000x1, .f32⟩
  | 44 => ⟨S8x20000x1, .i1⟩
  | 45 => ⟨S8x20000x1, .f32⟩
  | 46 => ⟨S_, .f32⟩
  | 47 => ⟨S_, .f32⟩
  | 48 => ⟨S20000x1, .f32⟩
  | 49 => ⟨S8x20000x1, .f32⟩
  | 50 => ⟨S8x20000x1, .f32⟩
  | 51 => ⟨S_, .f32⟩
  | 52 => ⟨S8, .f32⟩
  | 53 => ⟨S_, .f32⟩
  | 54 => ⟨S8, .f32⟩
  | 55 => ⟨S8, .f32⟩
  | 56 => ⟨S8, .f32⟩
  | 57 => ⟨S_, .f32⟩
  | 58 => ⟨S8, .f32⟩
  | 59 => ⟨S_, .f32⟩
  | 60 => ⟨S8, .f32⟩
  | 61 => ⟨S8, .f32⟩
  | 62 => ⟨S8, .f32⟩
  | 63 => ⟨S8x20000x1, .f32⟩
  | 64 => ⟨S8x20000, .f32⟩
  | 65 => ⟨S8x20000x1, .f32⟩
  | 66 => ⟨S8x20000, .f32⟩
  | 67 => ⟨S8x20000, .f32⟩
  | 68 => ⟨S8x20000x1, .f32⟩
  | 69 => ⟨S8x20000, .f32⟩
  | 70 => ⟨S8x20000x1, .f32⟩
  | 71 => ⟨S8x20000, .f32⟩
  | 72 => ⟨S8x20000, .f32⟩
  | 73 => ⟨S8x20000x1, .f32⟩
  | 74 => ⟨S8x20000, .f32⟩
  | 75 => ⟨S_, .f32⟩
  | 76 => ⟨S8x20000, .f32⟩
  | 77 => ⟨S8x20000, .f32⟩
  | 78 => ⟨S8x20000, .f32⟩
  | 79 => ⟨S8x20000x1, .f32⟩
  | 80 => ⟨S8x20000, .f32⟩
  | 81 => ⟨S_, .f32⟩
  | 82 => ⟨S8x20000, .f32⟩
  | 83 => ⟨S8x20000, .f32⟩
  | 84 => ⟨S8x20000, .f32⟩
  | 85 => ⟨S_, .f32⟩
  | 86 => ⟨S_, .f32⟩
  | 87 => ⟨S8x20000, .f32⟩
  | 88 => ⟨S8x20000, .f32⟩
  | 89 => ⟨S_, .f32⟩
  | 90 => ⟨S_, .f32⟩
  | 91 => ⟨S8x20000, .f32⟩
  | 92 => ⟨S8x20000, .f32⟩
  | 93 => ⟨S1x20000, .f32⟩
  | 94 => ⟨S8x20000, .f32⟩
  | 95 => ⟨S8x20000, .f32⟩
  | 96 => ⟨S1x20000, .f32⟩
  | 97 => ⟨S8x20000, .f32⟩
  | 98 => ⟨S8x20000, .f32⟩
  | 99 => ⟨S1x20000, .f32⟩
  | 100 => ⟨S8x20000, .f32⟩
  | 101 => ⟨S8x20000, .f32⟩
  | 102 => ⟨S1x20000, .f32⟩
  | 103 => ⟨S8x20000, .f32⟩
  | 104 => ⟨S8x20000, .f32⟩
  | 105 => ⟨S1x20000, .f32⟩
  | 106 => ⟨S8x20000, .f32⟩
  | 107 => ⟨S8x20000, .f32⟩
  | 108 => ⟨S8x20000, .f32⟩
  | 109 => ⟨S1x20000, .f32⟩
  | 110 => ⟨S8x20000, .f32⟩
  | 111 => ⟨S8x20000, .f32⟩
  | 112 => ⟨S8x20000, .f32⟩
  | 113 => ⟨S8x20000x1, .f32⟩
  | 114 => ⟨S8x20000x1, .f32⟩
  | 115 => ⟨S8x20000x1, .f32⟩
  | 116 => ⟨S8x20000x1, .f32⟩
  | 117 => ⟨S8x20000x4, .f32⟩
  | 118 => ⟨S8x20000x4, .f32⟩
  | 119 => ⟨S8x20000x4, .f32⟩
  | 120 => ⟨S_, .f32⟩
  | 121 => ⟨S8x20000x4, .f32⟩
  | 122 => ⟨S8x20000x4, .i1⟩
  | 123 => ⟨S8x20000x4, .f32⟩
  | 124 => ⟨S_, .f32⟩
  | 125 => ⟨S8x20000x4, .f32⟩
  | 126 => ⟨S8x20000x4, .f32⟩
  | 127 => ⟨S_, .f32⟩
  | _ => ⟨S8x20000x1, .f32⟩

abbrev hbmTy0_3 (i : Nat) : BufTy := match i % 128 with
  | 0 => ⟨S8x20000x4, .f32⟩
  | 1 => ⟨S8x20000x4, .f32⟩
  | 2 => ⟨S8x20000x4, .f32⟩
  | 3 => ⟨S8x20000x1, .i1⟩
  | 4 => ⟨S8x20000x1, .f32⟩
  | 5 => ⟨S8x20000x4, .f32⟩
  | 6 => ⟨S8x20000x4, .f32⟩
  | 7 => ⟨S_, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S_, .f32⟩
  | 18 => ⟨S1, .f32⟩
  | 19 => ⟨S_, .f32⟩
  | 20 => ⟨S1, .f32⟩
  | 21 => ⟨S1, .f32⟩
  | 22 => ⟨S_, .f32⟩
  | 23 => ⟨S_, .f32⟩
  | 24 => ⟨S1, .f32⟩
  | 25 => ⟨S_, .f32⟩
  | 26 => ⟨S1, .f32⟩
  | 27 => ⟨S1, .f32⟩
  | 28 => ⟨S_, .f32⟩
  | 29 => ⟨S_, .f32⟩
  | 30 => ⟨S1, .f32⟩
  | 31 => ⟨S_, .f32⟩
  | 32 => ⟨S1, .f32⟩
  | 33 => ⟨S1, .f32⟩
  | _ => ⟨S8x20000x1, .f32⟩

abbrev hbmTy (i : Nat) : BufTy := match i / 128 with
  | 0 => hbmTy0_0 i
  | 1 => hbmTy0_1 i
  | 2 => hbmTy0_2 i
  | 3 => hbmTy0_3 i
  | _ => ⟨S8x20000x1, .f32⟩

abbrev bufTy : (tb : Table) → Fin (tcTables nBuf tb) → BufTy
  | .hbm, ⟨i, _⟩ => hbmTy i
  | _, _ => ⟨S8x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_cst_3 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_5 : Ref sig .tc := ⟨.hbm, 98, rfl⟩
abbrev main_call2_v0 : Ref sig .tc := ⟨.hbm, 99, rfl⟩
abbrev main_call2_v1 : Ref sig .tc := ⟨.hbm, 100, rfl⟩
abbrev main_v77 : Ref sig .tc := ⟨.hbm, 101, rfl⟩
abbrev main_cst_6 : Ref sig .tc := ⟨.hbm, 102, rfl⟩
abbrev main_call3_v0 : Ref sig .tc := ⟨.hbm, 103, rfl⟩
abbrev main_call3_v1 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_7 : Ref sig .tc := ⟨.hbm, 125, rfl⟩
abbrev main_call4_v0 : Ref sig .tc := ⟨.hbm, 126, rfl⟩
abbrev main_call4_v1 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_8 : Ref sig .tc := ⟨.hbm, 131, rfl⟩
abbrev main_v101 : Ref sig .tc := ⟨.hbm, 132, rfl⟩
abbrev main_call5_v0 : Ref sig .tc := ⟨.hbm, 133, rfl⟩
abbrev main_call5_cst : Ref sig .tc := ⟨.hbm, 134, rfl⟩
abbrev main_call5_c : Ref sig .tc := ⟨.hbm, 135, rfl⟩
abbrev main_call5_v1_0 : Ref sig .tc := ⟨.hbm, 136, rfl⟩
abbrev main_v102 : Ref sig .tc := ⟨.hbm, 137, rfl⟩
abbrev main_c : Ref sig .tc := ⟨.hbm, 138, rfl⟩
abbrev main_v103 : Ref sig .tc := ⟨.hbm, 139, rfl⟩
abbrev main_v104 : Ref sig .tc := ⟨.hbm, 140, rfl⟩
abbrev main_c_9 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_10 : Ref sig .tc := ⟨.hbm, 147, rfl⟩
abbrev main_v110 : Ref sig .tc := ⟨.hbm, 148, rfl⟩
abbrev main_v111 : Ref sig .tc := ⟨.hbm, 149, rfl⟩
abbrev main_cst_11 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c_12 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_13 : Ref sig .tc := ⟨.hbm, 158, rfl⟩
abbrev main_v118 : Ref sig .tc := ⟨.hbm, 159, rfl⟩
abbrev main_v119 : Ref sig .tc := ⟨.hbm, 160, rfl⟩
abbrev main_cst_14 : Ref sig .tc := ⟨.hbm, 161, rfl⟩
abbrev main_v120 : Ref sig .tc := ⟨.hbm, 162, rfl⟩
abbrev main_cst_15 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_16 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_v124 : Ref sig .tc := ⟨.hbm, 173, rfl⟩
abbrev main_v125 : Ref sig .tc := ⟨.hbm, 174, rfl⟩
abbrev main_cst_17 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_call8_v0 : Ref sig .tc := ⟨.hbm, 184, rfl⟩
abbrev main_call8_v1 : Ref sig .tc := ⟨.hbm, 185, rfl⟩
abbrev main_call8_v2 : Ref sig .tc := ⟨.hbm, 186, rfl⟩
abbrev main_call8_v3 : Ref sig .tc := ⟨.hbm, 187, rfl⟩
abbrev main_call8_v4 : Ref sig .tc := ⟨.hbm, 188, rfl⟩
abbrev main_call8_v5 : Ref sig .tc := ⟨.hbm, 189, rfl⟩
abbrev main_v130 : Ref sig .tc := ⟨.hbm, 190, rfl⟩
abbrev main_v131 : Ref sig .tc := ⟨.hbm, 191, rfl⟩
abbrev main_call9_v0 : Ref sig .tc := ⟨.hbm, 192, rfl⟩
abbrev main_v132 : Ref sig .tc := ⟨.hbm, 193, rfl⟩
abbrev main_cst_18 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_19 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_20 : Ref sig .tc := ⟨.hbm, 203, rfl⟩
abbrev main_call10_v0 : Ref sig .tc := ⟨.hbm, 204, rfl⟩
abbrev main_call10_v1 : Ref sig .tc := ⟨.hbm, 205, rfl⟩
abbrev main_call10_v2 : Ref sig .tc := ⟨.hbm, 206, rfl⟩
abbrev main_call10_v3 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_21 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_22 : Ref sig .tc := ⟨.hbm, 216, rfl⟩
abbrev main_call11_v0 : Ref sig .tc := ⟨.hbm, 217, rfl⟩
abbrev main_call11_v1 : Ref sig .tc := ⟨.hbm, 218, rfl⟩
abbrev main_call11_v2 : Ref sig .tc := ⟨.hbm, 219, rfl⟩
abbrev main_v147 : Ref sig .tc := ⟨.hbm, 220, rfl⟩
abbrev main_cst_23 : Ref sig .tc := ⟨.hbm, 221, rfl⟩
abbrev main_v148 : Ref sig .tc := ⟨.hbm, 222, rfl⟩
abbrev main_v149 : Ref sig .tc := ⟨.hbm, 223, rfl⟩
abbrev main_cst_24 : Ref sig .tc := ⟨.hbm, 224, rfl⟩
abbrev main_cst_25 : Ref sig .tc := ⟨.hbm, 225, rfl⟩
abbrev main_call12_v0 : Ref sig .tc := ⟨.hbm, 226, rfl⟩
abbrev main_call12_v1 : Ref sig .tc := ⟨.hbm, 227, rfl⟩
abbrev main_call12_v2 : Ref sig .tc := ⟨.hbm, 228, rfl⟩
abbrev main_call12_v3 : Ref sig .tc := ⟨.hbm, 229, rfl⟩
abbrev main_v150 : Ref sig .tc := ⟨.hbm, 230, rfl⟩
abbrev main_cst_26 : Ref sig .tc := ⟨.hbm, 231, rfl⟩
abbrev main_v151 : Ref sig .tc := ⟨.hbm, 232, rfl⟩
abbrev main_v152 : Ref sig .tc := ⟨.hbm, 233, rfl⟩
abbrev main_cst_27 : Ref sig .tc := ⟨.hbm, 234, rfl⟩
abbrev main_cst_28 : Ref sig .tc := ⟨.hbm, 235, rfl⟩
abbrev main_call13_v0 : Ref sig .tc := ⟨.hbm, 236, rfl⟩
abbrev main_call13_v1 : Ref sig .tc := ⟨.hbm, 237, rfl⟩
abbrev main_call13_v2 : Ref sig .tc := ⟨.hbm, 238, rfl⟩
abbrev main_call13_v3 : Ref sig .tc := ⟨.hbm, 239, rfl⟩
abbrev main_v153 : Ref sig .tc := ⟨.hbm, 240, rfl⟩
abbrev main_cst_29 : Ref sig .tc := ⟨.hbm, 241, rfl⟩
abbrev main_v154 : Ref sig .tc := ⟨.hbm, 242, rfl⟩
abbrev main_v155 : Ref sig .tc := ⟨.hbm, 243, rfl⟩
abbrev main_cst_30 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_31 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_cst_32 : Ref sig .tc := ⟨.hbm, 253, rfl⟩
abbrev main_v163 : Ref sig .tc := ⟨.hbm, 254, rfl⟩
abbrev main_v164 : Ref sig .tc := ⟨.hbm, 255, rfl⟩
abbrev main_cst_33 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_cst_34 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_cst_35 : Ref sig .tc := ⟨.hbm, 267, rfl⟩
abbrev main_v174 : Ref sig .tc := ⟨.hbm, 268, rfl⟩
abbrev main_v175 : Ref sig .tc := ⟨.hbm, 269, rfl⟩
abbrev main_cst_36 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_cst_37 : Ref sig .tc := ⟨.hbm, 279, rfl⟩
abbrev main_v184 : Ref sig .tc := ⟨.hbm, 280, rfl⟩
abbrev main_v185 : Ref sig .tc := ⟨.hbm, 281, rfl⟩
abbrev main_cst_38 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_39 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_cst_40 : Ref sig .tc := ⟨.hbm, 293, rfl⟩
abbrev main_call16_v0 : Ref sig .tc := ⟨.hbm, 294, rfl⟩
abbrev main_call16_v1 : Ref sig .tc := ⟨.hbm, 295, rfl⟩
abbrev main_call16_v2 : Ref sig .tc := ⟨.hbm, 296, rfl⟩
abbrev main_v195 : Ref sig .tc := ⟨.hbm, 297, rfl⟩
abbrev main_cst_41 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_cst_42 : Ref sig .tc := ⟨.hbm, 302, rfl⟩
abbrev main_call17_v0 : Ref sig .tc := ⟨.hbm, 303, rfl⟩
abbrev main_call17_v1 : Ref sig .tc := ⟨.hbm, 304, rfl⟩
abbrev main_call17_v2 : Ref sig .tc := ⟨.hbm, 305, rfl⟩
abbrev main_v199 : Ref sig .tc := ⟨.hbm, 306, rfl⟩
abbrev main_cst_43 : Ref sig .tc := ⟨.hbm, 307, rfl⟩
abbrev main_v200 : Ref sig .tc := ⟨.hbm, 308, rfl⟩
abbrev main_cst_44 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_cst_45 : Ref sig .tc := ⟨.hbm, 313, rfl⟩
abbrev main_v204 : Ref sig .tc := ⟨.hbm, 314, rfl⟩
abbrev main_cst_46 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_cst_47 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_cst_48 : Ref sig .tc := ⟨.hbm, 337, rfl⟩
abbrev main_v225 : Ref sig .tc := ⟨.hbm, 338, rfl⟩
abbrev main_v226 : Ref sig .tc := ⟨.hbm, 339, rfl⟩
abbrev main_v227 : Ref sig .tc := ⟨.hbm, 340, rfl⟩
abbrev main_cst_49 : Ref sig .tc := ⟨.hbm, 341, rfl⟩
abbrev main_call18_v0 : Ref sig .tc := ⟨.hbm, 342, rfl⟩
abbrev main_call18_v1 : Ref sig .tc := ⟨.hbm, 343, rfl⟩
abbrev main_v228 : Ref sig .tc := ⟨.hbm, 344, rfl⟩
abbrev main_cst_50 : Ref sig .tc := ⟨.hbm, 345, rfl⟩
abbrev main_call19_v0 : Ref sig .tc := ⟨.hbm, 346, rfl⟩
abbrev main_call19_v1 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_cst_51 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_cst_52 : Ref sig .tc := ⟨.hbm, 380, rfl⟩
abbrev main_v260 : Ref sig .tc := ⟨.hbm, 381, rfl⟩
abbrev main_v261 : Ref sig .tc := ⟨.hbm, 382, rfl⟩
abbrev main_cst_53 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_cst_54 : Ref sig .tc := ⟨.hbm, 391, rfl⟩
abbrev main_v269 : Ref sig .tc := ⟨.hbm, 392, rfl⟩
abbrev main_cst_55 : Ref sig .tc := ⟨.hbm, 393, rfl⟩
abbrev main_v270 : Ref sig .tc := ⟨.hbm, 394, rfl⟩
abbrev main_v271 : Ref sig .tc := ⟨.hbm, 395, rfl⟩
abbrev main_cst_56 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_cst_57 : Ref sig .tc := ⟨.hbm, 400, rfl⟩
abbrev main_v275 : Ref sig .tc := ⟨.hbm, 401, rfl⟩
abbrev main_v276 : Ref sig .tc := ⟨.hbm, 402, rfl⟩
abbrev main_cst_58 : Ref sig .tc := ⟨.hbm, 403, rfl⟩
abbrev main_v277 : Ref sig .tc := ⟨.hbm, 404, rfl⟩
abbrev main_v278 : Ref sig .tc := ⟨.hbm, 405, rfl⟩
abbrev main_cst_59 : Ref sig .tc := ⟨.hbm, 406, rfl⟩
abbrev main_v279 : Ref sig .tc := ⟨.hbm, 407, rfl⟩
abbrev main_v280 : Ref sig .tc := ⟨.hbm, 408, rfl⟩
abbrev main_cst_60 : Ref sig .tc := ⟨.hbm, 409, rfl⟩
abbrev main_v281 : Ref sig .tc := ⟨.hbm, 410, rfl⟩
abbrev main_v282 : Ref sig .tc := ⟨.hbm, 411, rfl⟩
abbrev main_cst_61 : Ref sig .tc := ⟨.hbm, 412, rfl⟩
abbrev main_v283 : Ref sig .tc := ⟨.hbm, 413, rfl⟩
abbrev main_v284 : Ref sig .tc := ⟨.hbm, 414, rfl⟩
abbrev main_cst_62 : Ref sig .tc := ⟨.hbm, 415, rfl⟩
abbrev main_v285 : Ref sig .tc := ⟨.hbm, 416, rfl⟩
abbrev main_v286 : Ref sig .tc := ⟨.hbm, 417, rfl⟩

abbrev nD : Nat := 1
abbrev τ : Topo := Topo.v7x

variable {F : FTy → Type} [FloatOps F]
-- ==== Proof.Math.Const.lean ====
/-
  The constants the two programs name, as real numbers, and the arithmetic of the clipped probabilities.
-/
module

public import Idealize.ShloMosaic.Lib.IdealHost
public import Idealize.ShloMosaic.Lib.Pointwise

@[expose] public section

noncomputable section

namespace Cert.Focal

open Idealize.ShloMosaic

/-- The number a 32-bit pattern stands for. -/
abbrev C (w : BitVec 32) : EReal := Ideal.ofBits .f32 w

/-- The lower clip, a real number. -/
def lo : ℝ := 13743895 / 2 ^ 37
/-- The upper clip, a real number. -/
def hi : ℝ := 16775538 / 2 ^ 24

/-- The pattern of the lower clip. -/
theorem C_lo : C 953267991#32 = (lo : EReal) := by
  simp [C, Ideal.ofBits, Ideal.ieee, -EReal.coe_mul, lo]; norm_num
/-- The pattern of the upper clip. -/
theorem C_hi : C 1065351538#32 = (hi : EReal) := by
  simp [C, Ideal.ofBits, Ideal.ieee, -EReal.coe_mul, hi]; norm_num
/-- The pattern of one half. -/
theorem C_half : C 1056964608#32 = ((1 / 2 : ℝ) : EReal) := by
  simp [C, Ideal.ofBits, Ideal.ieee, -EReal.coe_mul]; norm_num
/-- The pattern of three quarters. -/
theorem C_threeQuarters : C 1061158912#32 = ((3 / 4 : ℝ) : EReal) := by
  simp [C, Ideal.ofBits, Ideal.ieee, -EReal.coe_mul]; norm_num
/-- The pattern of one quarter. -/
theorem C_quarter : C 1048576000#32 = ((1 / 4 : ℝ) : EReal) := by
  simp [C, Ideal.ofBits, Ideal.ieee, -EReal.coe_mul]; norm_num
/-- The pattern of two. -/
theorem C_two : C 1073741824#32 = ((2 : ℝ) : EReal) := by
  simp [C, Ideal.ofBits, Ideal.ieee, -EReal.coe_mul]; norm_num
/-- The pattern of minus one. -/
theorem C_neg_one : C 3212836864#32 = ((-1 : ℝ) : EReal) := by
  simp [C, Ideal.ofBits, Ideal.ieee, -EReal.coe_mul, -EReal.coe_neg]; norm_num
/-- The pattern of minus infinity. -/
theorem C_neg_inf : C 4286578688#32 = ⊥ := by
  simp [C, Ideal.ofBits, Ideal.ieee]
/-- One is not minus one. -/
theorem one_ne_C : (1 : EReal) ≠ C 3212836864#32 := by
  rw [C_neg_one, show (1 : EReal) = ((1 : ℝ) : EReal) by norm_cast, Ne, EReal.coe_eq_coe_iff]; norm_num
/-- Zero is not minus one. -/
theorem zero_ne_C : (0 : EReal) ≠ C 3212836864#32 := by
  rw [C_neg_one, show (0 : EReal) = ((0 : ℝ) : EReal) by norm_cast, Ne, EReal.coe_eq_coe_iff]; norm_num

/-- A probability kept away from zero and one. -/
def clip (x : EReal) : EReal := min (C 1065351538#32) (max (C 953267991#32) x)

/-- A clipped probability is a real number strictly between zero and one. -/
theorem clip_real (x : EReal) : ∃ r : ℝ, clip x = r ∧ lo ≤ r ∧ 0 < r ∧ r < 1 := by
  have h0 : (0 : ℝ) < lo := by unfold lo; norm_num
  have h1 : lo < hi := by unfold lo hi; norm_num
  have h2 : hi < 1 := by unfold hi; norm_num
  unfold clip
  rw [C_lo, C_hi]
  have a : (lo : EReal) ≤ min (hi : EReal) (max (lo : EReal) x) :=
    le_min (EReal.coe_le_coe_iff.mpr h1.le) (le_max_left _ _)
  have b : min (hi : EReal) (max (lo : EReal) x) ≤ hi := min_le_left _ _
  generalize min (hi : EReal) (max (lo : EReal) x) = y at a b
  induction y with
  | bot => exact absurd a (by simp)
  | top => exact absurd b (by simp)
  | coe r =>
    have a' := EReal.coe_le_coe_iff.mp a
    have b' := EReal.coe_le_coe_iff.mp b
    exact ⟨r, rfl, a', by linarith, by linarith⟩

/-- The logarithm of a positive real. -/
theorem log_pos {r : ℝ} (h : 0 < r) : Ideal.log (r : EReal) = (Real.log r : EReal) := by
  rw [Ideal.log_coe, if_neg (not_le.mpr h)]

/-- One minus a real. -/
theorem one_sub_coe (r : ℝ) : (1 : EReal) - (r : EReal) = ((1 - r : ℝ) : EReal) := by
  rw [EReal.coe_sub, EReal.coe_one]

/-- The square of a real as the programs' power. -/
theorem pow_two_coe (r : ℝ) : Ideal.pow (r : EReal) (C 1073741824#32) = ((r * r : ℝ) : EReal) := by
  rw [C_two]
  show ((Real.rpow r 2 : ℝ) : EReal) = _
  congr 1
  rw [show Real.rpow r 2 = r ^ (2 : ℝ) from rfl, Real.rpow_two, sq]

end Cert.Focal

end
-- ==== Proof.Math.Rows.lean ====
/-
  One anchor's losses: the overlaps, and the kernel's and the reference's instance and class loss of one anchor, which
  are equal when the label of the assigned annotation is a class.
-/
module

public import proofs.«01_k».proof.Proof.Math.Const

@[expose] public section

noncomputable section

namespace Cert.Focal

open Idealize.ShloMosaic

/-- The overlapping area of an anchor and an annotation. -/
def inter (a : Fin 4 → EReal) (q : Fin 6 → EReal) : EReal :=
  max (min (a 3) (q 2) - max (a 1) (q 0)) 0 * max (min (a 2) (q 3) - max (a 0) (q 1)) 0

/-- The overlap of an anchor and an annotation: the common area over the joint area. -/
def iou (a : Fin 4 → EReal) (q : Fin 6 → EReal) : EReal :=
  Ideal.div (inter a q)
    (max ((a 2 - a 0) * (a 3 - a 1) + (q 2 - q 0) * (q 3 - q 1) - inter a q) (C 841731191#32))

/-- The best of an anchor's hundred overlaps. -/
def best (u : Fin 100 → EReal) : EReal := Finset.fold max (C 4286578688#32) u Finset.univ

/-- Zero or one. -/
def bit (p : Prop) [Decidable p] : BitVec 1 := BitVec.ofBool (decide p)

/-- A bit read as a number by widening it and converting the word. -/
theorem sitofp_bit (p : Prop) [Decidable p] :
    (FloatOps.sitofp (F := Ideal) FTy.f32 (BitVec.setWidth 32 (BitVec.ofBool (decide p))) : EReal) = if p then 1 else 0 := by
  show (((BitVec.setWidth 32 (BitVec.ofBool (decide p))).toInt : ℝ) : EReal) = _
  by_cases h : p <;> simp [h]

/-- A bit read as a number directly. -/
theorem uitofp_bit (p : Prop) [Decidable p] :
    (FloatOps.uitofp (F := Ideal) FTy.f32 (BitVec.ofBool (decide p)) : EReal) = if p then 1 else 0 := by
  show (((BitVec.ofBool (decide p)).toNat : ℝ) : EReal) = _
  by_cases h : p <;> simp [h]

/-- A choice by a decided bit. -/
theorem select_bit {α : Type} (p : Prop) [Decidable p] (x y : α) :
    Scalar.select (BitVec.ofBool (decide p)) x y = if p then x else y := by
  by_cases h : p <;> simp [Scalar.select, h]

/-- The conjunction of two decided bits. -/
theorem andi_bit (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The instance target of an anchor: one, zero, or minus one for none. -/
def target (p : Prop) [Decidable p] (flag : EReal) : EReal :=
  if p ∧ flag = 1 then 1 else if p ∧ flag = 0 then 0 else C 3212836864#32

/-- The same with the two flags tried in the other order. -/
theorem target_swap (p : Prop) [Decidable p] (flag : EReal) :
    (if p ∧ flag = 0 then 0 else if p ∧ flag = 1 then 1 else C 3212836864#32) = target p flag := by
  unfold target
  by_cases h1 : p ∧ flag = 1
  · rw [if_pos h1, if_pos h1, if_neg (fun h => one_ne_zero (h1.2.symm.trans h.2))]
  · rw [if_neg h1, if_neg h1]

/-- The kernel's instance loss of an anchor with target `t`. -/
def instK (t x : EReal) : EReal :=
  if t ≠ C 3212836864#32 then
    C 1056964608#32 * ((if t = 1 then 1 - clip x else clip x) * (if t = 1 then 1 - clip x else clip x))
      * (0 - Ideal.log (1 - (if t = 1 then 1 - clip x else clip x)))
  else 0

/-- The reference's instance loss of an anchor with target `t`. -/
def instR (t x : EReal) : EReal :=
  if t ≠ C 3212836864#32 then
    C 1056964608#32 * Ideal.pow (if t = 1 then 1 - clip x else clip x) (C 1073741824#32)
      * -(t * Ideal.log (clip x) + (1 - t) * Ideal.log (1 - clip x))
  else 0

/-- The two instance losses agree at every target an anchor can have. -/
theorem instK_eq_instR (p : Prop) [Decidable p] (flag x : EReal) : instK (target p flag) x = instR (target p flag) x := by
  obtain ⟨r, hr, -, h0, h1⟩ := clip_real x
  have t : target p flag = 1 ∨ target p flag = 0 ∨ target p flag = C 3212836864#32 := by
    unfold target
    split_ifs <;> simp
  unfold instK instR
  rw [hr]
  rcases t with t | t | t
  · rw [t, if_pos one_ne_C, if_pos one_ne_C]
    simp only [if_true]
    rw [one_sub_coe, pow_two_coe, one_sub_coe, log_pos h0, log_pos (by linarith), log_pos (by linarith)]
    rw [show (1 : EReal) - 1 = 0 by rw [← EReal.coe_one, ← EReal.coe_sub, sub_self, EReal.coe_zero], one_mul, zero_mul,
      add_zero, zero_sub, sub_sub_cancel, EReal.coe_mul]
  · rw [t, if_pos zero_ne_C, if_pos zero_ne_C, if_neg zero_ne_one, pow_two_coe, one_sub_coe, log_pos h0,
      log_pos (by linarith), zero_mul, sub_zero, one_mul, zero_add, zero_sub, EReal.coe_mul]
  · rw [t, if_neg (by simp), if_neg (by simp)]

/-- A label that, read as a 32-bit integer, is one of the 80 classes. -/
def IsClass (l : EReal) : Prop := ∃ k : Fin 80, FloatOps.fptosi (F := Ideal) (φ := .f32) 32 l = BitVec.ofNat 32 k.val

/-- Two class numbers are equal words just when they are equal. -/
theorem word_eq (k j : Fin 80) :
    IntOp.cmpi .eq (BitVec.ofNat 32 k.val) (BitVec.ofNat 32 j.val) = BitVec.ofBool (decide (k = j)) := by
  revert k j
  decide +kernel

/-- The kernel's class loss of an anchor, with best overlap `b`, scores `x` and label `l`. -/
def clsK (b l : EReal) (x : Fin 80 → EReal) (o : EReal) : EReal :=
  max (if C 1056964608#32 ≤ b then 1 else 0) (if b < C 1053609165#32 then 1 else 0)
      * ∑ k, C 1061158912#32 * (clip (x k) * clip (x k)) * (0 - Ideal.log (1 - clip (x k)))
    + (if C 1056964608#32 ≤ b then 1 else 0)
      * (C 1048576000#32 * ((1 - max o (C 953267991#32)) * (1 - max o (C 953267991#32))) * (0 - Ideal.log (max o (C 953267991#32)))
        - C 1061158912#32 * (max o (C 953267991#32) * max o (C 953267991#32)) * (0 - Ideal.log (1 - max o (C 953267991#32))))

/-- The score of the label's own class. -/
def own (l : EReal) (x : Fin 80 → EReal) : EReal :=
  ∑ k : Fin 80, Scalar.select (IntOp.cmpi .eq (BitVec.ofNat 32 k.val) (FloatOps.fptosi (F := Ideal) (φ := .f32) 32 l)) (clip (x k)) 0

/-- The class target of a class. -/
def clsT (b l : EReal) (k : Fin 80) : EReal :=
  if C 1056964608#32 ≤ b then
    FloatOps.uitofp (F := Ideal) FTy.f32 (IntOp.cmpi .eq (FloatOps.fptosi (F := Ideal) (φ := .f32) 32 l) (BitVec.ofNat 32 k.val))
  else if b < C 1053609165#32 then 0 else C 3212836864#32

/-- The reference's class loss of one class with target `t` and score `x`. -/
def clsR1 (t x : EReal) : EReal :=
  if t ≠ C 3212836864#32 then
    (if t = 1 then C 1048576000#32 else C 1061158912#32) * Ideal.pow (if t = 1 then 1 - clip x else clip x) (C 1073741824#32)
      * -(t * Ideal.log (clip x) + (1 - t) * Ideal.log (1 - clip x))
  else 0

/-- The loss of a class that is not the label's. -/
theorem clsR1_zero (x : EReal) :
    clsR1 0 x = C 1061158912#32 * (clip x * clip x) * (0 - Ideal.log (1 - clip x)) := by
  obtain ⟨r, hr, -, h0, h1⟩ := clip_real x
  unfold clsR1
  rw [hr, if_pos zero_ne_C, if_neg zero_ne_one, if_neg zero_ne_one, pow_two_coe, one_sub_coe, log_pos h0,
    log_pos (by linarith), zero_mul, sub_zero, one_mul, zero_add, zero_sub, EReal.coe_mul]

/-- The loss of the label's class. -/
theorem clsR1_one (x : EReal) :
    clsR1 1 x = C 1048576000#32 * ((1 - clip x) * (1 - clip x)) * (0 - Ideal.log (clip x)) := by
  obtain ⟨r, hr, -, h0, h1⟩ := clip_real x
  unfold clsR1
  rw [hr, if_pos one_ne_C]
  simp only [if_true]
  rw [one_sub_coe, pow_two_coe, log_pos h0, log_pos (by linarith)]
  rw [show (1 : EReal) - 1 = 0 by rw [← EReal.coe_one, ← EReal.coe_sub, sub_self, EReal.coe_zero], one_mul, zero_mul,
    add_zero, zero_sub, EReal.coe_mul]

/-- A finite sum of reals is the real sum. -/
theorem coe_sum (f : Fin 80 → ℝ) : ((∑ j, f j : ℝ) : EReal) = ∑ j, (f j : EReal) := by
  induction (Finset.univ : Finset (Fin 80)) using Finset.induction_on with
  | empty => simp
  | insert a s h ih => rw [Finset.sum_insert h, Finset.sum_insert h, EReal.coe_add, ih]

/-- Changing one term of a finite sum of real numbers. -/
theorem sum_change (f : Fin 80 → ℝ) (k : Fin 80) (g : ℝ) :
    (∑ j, (f j : EReal)) + ((g : EReal) - (f k : EReal)) = ∑ j, (((if k = j then g else f j : ℝ)) : EReal) := by
  rw [← EReal.coe_sub]
  rw [← coe_sum, ← coe_sum, ← EReal.coe_add, EReal.coe_eq_coe_iff]
  rw [← Finset.add_sum_erase _ _ (Finset.mem_univ k), ← Finset.add_sum_erase (Finset.univ) (fun j => if k = j then g else f j) (Finset.mem_univ k)]
  rw [Finset.sum_congr rfl (fun j hj => if_neg (Finset.ne_of_mem_erase hj).symm), if_pos rfl]
  ring

/-- The two class losses of an anchor agree when its label is a class. -/
theorem clsK_eq_clsR (b l : EReal) (x : Fin 80 → EReal) (h : IsClass l) :
    clsK b l x (own l x) = ∑ k, clsR1 (clsT b l k) (x k) := by
  obtain ⟨k, hk⟩ := h
  unfold clsK
  by_cases hp : C 1056964608#32 ≤ b
  · have ho : own l x = clip (x k) := by
      unfold own
      rw [hk]
      simp only [word_eq, select_bit]
      rw [Finset.sum_ite_eq' Finset.univ k, if_pos (Finset.mem_univ k)]
    have hc : ∀ j, clsT b l j = if k = j then 1 else 0 := fun j => by
      unfold clsT
      rw [if_pos hp, hk, word_eq, uitofp_bit]
    choose r hr hl r0 r1 using fun j => clip_real (x j)
    rw [if_pos hp, max_eq_left (by split_ifs <;> simp), one_mul, one_mul, ho, max_eq_left (by rw [hr, C_lo]; exact_mod_cast hl k)]
    have e0 : ∀ j, clsR1 0 (x j) = ((3 / 4 * (r j * r j) * (0 - Real.log (1 - r j)) : ℝ) : EReal) := fun j => by
      rw [clsR1_zero, hr, one_sub_coe, log_pos (by linarith [r1 j]), C_threeQuarters]
      push_cast
      rfl
    have e1 : ∀ j, clsR1 1 (x j) = ((1 / 4 * ((1 - r j) * (1 - r j)) * (0 - Real.log (r j)) : ℝ) : EReal) := fun j => by
      rw [clsR1_one, hr, one_sub_coe, log_pos (r0 j), C_quarter]
      push_cast
      rfl
    rw [← clsR1_zero, ← clsR1_one]
    simp only [← clsR1_zero]
    rw [e1, e0]
    simp only [e0]
    rw [sum_change]
    refine Finset.sum_congr rfl fun j _ => ?_
    rw [hc]
    by_cases hj : k = j
    · rw [if_pos hj, if_pos hj, e1, hj]
    · rw [if_neg hj, if_neg hj, e0]
  · rw [if_neg hp, zero_mul, add_zero]
    by_cases hn : b < C 1053609165#32
    · rw [if_pos hn, max_eq_right zero_le_one, one_mul]
      refine Finset.sum_congr rfl fun j _ => ?_
      rw [← clsR1_zero, clsT, if_neg hp, if_pos hn]
    · rw [if_neg hn, max_self, zero_mul]
      refine (Finset.sum_eq_zero fun j _ => ?_).symm
      rw [clsT, if_neg hp, if_neg hn, clsR1, if_neg (by simp)]

end Cert.Focal

end
-- ==== Proof.Math.Who.lean ====
/-
  The annotation assigned to an anchor: the first of the hundred with the best overlap. The kernel finds it as the
  smallest index among those with the best overlap.
-/
module

public import proofs.«01_k».proof.Proof.Math.Rows

@[expose] public section

noncomputable section

namespace Cert.Focal

open Idealize.ShloMosaic

/-- No overlap is above the best one. -/
theorem le_best (u : Fin 100 → EReal) (k : Fin 100) : u k ≤ best u :=
  (Finset.le_fold_max (u k)).2 (Or.inr ⟨k, Finset.mem_univ k, le_rfl⟩)

/-- The best overlap is some annotation's. -/
theorem exists_best (u : Fin 100 → EReal) : ∃ k, u k = best u := by
  obtain ⟨k, -, hk⟩ := Finset.exists_max_image Finset.univ u ⟨0, Finset.mem_univ 0⟩
  refine ⟨k, le_antisymm (le_best u k) ?_⟩
  refine (Finset.fold_max_le (u k)).2 ⟨?_, fun x hx => hk x hx⟩
  rw [C_neg_inf]
  exact bot_le

/-- The first annotation with the best overlap. -/
def who (u : Fin 100 → EReal) : Fin 100 :=
  (Finset.univ.filter fun k => u k = best u).min'
    ((exists_best u).imp fun k hk => Finset.mem_filter.2 ⟨Finset.mem_univ k, hk⟩)

/-- It has the best overlap. -/
theorem who_best (u : Fin 100 → EReal) : u (who u) = best u :=
  have h : who u ∈ Finset.univ.filter fun k => u k = best u := Finset.min'_mem _ _
  (Finset.mem_filter.1 h).2

/-- It comes no later than another with the best overlap. -/
theorem who_le (u : Fin 100 → EReal) {k : Fin 100} (h : u k = best u) : who u ≤ k :=
  Finset.min'_le _ _ (Finset.mem_filter.2 ⟨Finset.mem_univ k, h⟩)

/-- An annotation nobody beats and nobody earlier equals is the one assigned. -/
theorem eq_who (u : Fin 100 → EReal) (k : Fin 100) (h : ∀ j, u j < u k ∨ (u k = u j ∧ k ≤ j)) : k = who u := by
  have hk : u k = best u := by
    refine le_antisymm (le_best u k) ?_
    rw [← who_best u]
    rcases h (who u) with g | g
    · exact g.le
    · exact g.1.ge
  refine le_antisymm ?_ (who_le u hk)
  rcases h (who u) with g | g
  · exact absurd g (by rw [who_best u, hk]; exact lt_irrefl _)
  · exact g.2

/-- A small number read back from its word. -/
theorem toInt_small (k : Fin 101) : (BitVec.ofNat 32 k.val).toInt = k.val := by
  revert k
  decide +kernel

/-- The smaller of two words, read as a number. -/
theorem toInt_minsi (x y : BitVec 32) : (IntOp.minsi x y).toInt = min x.toInt y.toInt := by
  unfold IntOp.minsi
  rw [min_def]
  have : x.slt y = decide (x.toInt < y.toInt) := rfl
  by_cases h : x.toInt < y.toInt
  · rw [this, if_pos (by simpa using h), if_pos h.le]
  · rw [this, if_neg (by simpa using h)]
    split_ifs with g
    · exact le_antisymm (not_lt.1 h) g
    · rfl

/-- The kernel's word of an anchor: the smallest index among those with the best overlap. -/
def word (u : Fin 100 → EReal) : BitVec 32 :=
  Finset.fold IntOp.minsi 2147483647#32 (fun x : Fin 100 => if u x = best u then BitVec.ofNat 32 x.val else 100#32) Finset.univ

/-- It is the assigned annotation's. -/
theorem word_who (u : Fin 100 → EReal) : word u = BitVec.ofNat 32 (who u).val := by
  apply BitVec.eq_of_toInt_eq
  have small : ∀ x : Fin 100, (BitVec.ofNat 32 x.val).toInt = x.val := fun x => toInt_small ⟨x.val, by omega⟩
  unfold word
  rw [← Finset.fold_hom (op' := (min : Int → Int → Int)) (m := BitVec.toInt) toInt_minsi, small]
  refine le_antisymm ?_ ?_
  · refine Finset.fold_min_le _ |>.2 (Or.inr ⟨who u, Finset.mem_univ _, ?_⟩)
    rw [if_pos (who_best u), small]
  · refine Finset.le_fold_min _ |>.2 ⟨?_, fun x _ => ?_⟩
    · have : (2147483647#32).toInt = 2147483647 := by decide
      rw [this]; have := (who u).isLt; omega
    · split_ifs with h
      · rw [small]; exact_mod_cast who_le u h
      · have : (100#32).toInt = 100 := by decide
        rw [this]; have := (who u).isLt; omega

/-- Two annotation numbers are equal words just when they are equal. -/
theorem word100_eq (k j : Fin 100) :
    IntOp.cmpi .eq (BitVec.ofNat 32 k.val) (BitVec.ofNat 32 j.val) = BitVec.ofBool (decide (k = j)) := by
  have small : ∀ x : Fin 100, (BitVec.ofNat 32 x.val).toInt = x.val := fun x => toInt_small ⟨x.val, by omega⟩
  unfold IntOp.cmpi
  congr 1
  by_cases h : k = j
  · subst h; simp
  · have : BitVec.ofNat 32 k.val ≠ BitVec.ofNat 32 j.val := fun e => h (Fin.ext (by
      have := congrArg BitVec.toInt e
      rw [small, small] at this
      exact_mod_cast this))
    simp [h, this]

/-- The kernel's one-hot entry of annotation `k`. -/
theorem one_hot (u : Fin 100 → EReal) (k : Fin 100) :
    (FloatOps.sitofp (F := Ideal) FTy.f32 (BitVec.setWidth 32 (IntOp.cmpi .eq (BitVec.ofNat 32 k.val) (word u))) : EReal)
      = if k = who u then 1 else 0 := by
  rw [word_who, word100_eq]
  exact sitofp_bit _

/-- A number of the assigned annotation, found by summing against the one-hot. -/
theorem pick (g : Fin 100 → EReal) (u : Fin 100 → EReal) :
    ∑ k, g k * (if k = who u then 1 else 0) = g (who u) := by
  rw [Finset.sum_eq_single (who u) (fun k _ hk => by rw [if_neg hk, mul_zero]) (fun h => absurd (Finset.mem_univ _) h),
    if_pos rfl, mul_one]

end Cert.Focal

end
-- ==== Proof.Math.Spec.lean ====
/-
  The three losses as mathematics: what one anchor contributes, an image's sums over its twenty thousand anchors, and
  the means over the eight images.
-/
module

public import proofs.«01_k».proof.Proof.Math.Who

@[expose] public section

noncomputable section

namespace Cert.Focal

open Idealize.ShloMosaic

/-- The overlaps of an anchor with an image's annotations. -/
def ov (a : Fin 4 → EReal) (g : Fin 100 → Fin 6 → EReal) : Fin 100 → EReal := fun k => iou a (g k)

/-- The annotation assigned to an anchor. -/
def mine (a : Fin 4 → EReal) (g : Fin 100 → Fin 6 → EReal) : Fin 6 → EReal := g (who (ov a g))

/-- One where an anchor's best overlap reaches a threshold, zero elsewhere. -/
def hit (w : BitVec 32) (a : Fin 4 → EReal) (g : Fin 100 → Fin 6 → EReal) : EReal := if C w ≤ best (ov a g) then 1 else 0

/-- An anchor's instance loss. -/
def rowI (p : EReal) (a : Fin 4 → EReal) (g : Fin 100 → Fin 6 → EReal) : EReal :=
  instR (target (C 1050253722#32 ≤ best (ov a g)) (mine a g 5)) p

/-- An anchor's class loss. -/
def rowC (c : Fin 80 → EReal) (a : Fin 4 → EReal) (g : Fin 100 → Fin 6 → EReal) : EReal :=
  ∑ k, clsR1 (clsT (best (ov a g)) (mine a g 4) k) (c k)

/-- The regression target of an anchor from the middle and the length of a box side: the offset of the middles. -/
def offset (q0 q1 a0 a1 : EReal) : EReal :=
  Ideal.div (q0 + C 1056964608#32 * (q1 - q0) - (a0 + C 1056964608#32 * (a1 - a0))) (a1 - a0)

/-- … and the logarithm of the ratio of the lengths. -/
def ratio (q0 q1 a0 a1 : EReal) : EReal := Ideal.log (Ideal.div (max (q1 - q0) 1) (a1 - a0))

/-- The smooth absolute value of the regression loss. -/
def smooth (e : EReal) : EReal :=
  if e ≤ C 1038323257#32 then C 1083179008#32 * (e * e) else e - C 1029934649#32

/-- The distance of two numbers. -/
def dist (x y : EReal) : EReal := FloatOps.absf (F := Ideal) (φ := .f32) (x - y)

/-- An anchor's four regression targets. -/
def tgt (a : Fin 4 → EReal) (q : Fin 6 → EReal) : Fin 4 → EReal :=
  ![offset (q 1) (q 3) (a 0) (a 2), offset (q 0) (q 2) (a 1) (a 3), ratio (q 1) (q 3) (a 0) (a 2), ratio (q 0) (q 2) (a 1) (a 3)]

/-- One term of an anchor's regression loss. -/
def term (r : Fin 4 → EReal) (a : Fin 4 → EReal) (g : Fin 100 → Fin 6 → EReal) (k : Fin 4) : EReal :=
  smooth (dist (tgt a (mine a g) k) (r k)) * hit 1056964608#32 a g

/-- An anchor's regression loss. -/
def rowR (r : Fin 4 → EReal) (a : Fin 4 → EReal) (g : Fin 100 → Fin 6 → EReal) : EReal := ∑ k, term r a g k

variable (P : Fin 8 → Fin 20000 → EReal) (Q : Fin 8 → Fin 20000 → Fin 80 → EReal) (R : Fin 8 → Fin 20000 → Fin 4 → EReal)
  (A : Fin 20000 → Fin 4 → EReal) (G : Fin 8 → Fin 100 → Fin 6 → EReal)

/-- How many of an image's anchors reach a threshold. -/
def count (w : BitVec 32) (i : Fin 8) : EReal := ∑ n, hit w (A n) (G i)

/-- The instance loss: the mean over the images. -/
def lossI : EReal :=
  Ideal.div (∑ i, Ideal.div (∑ n, rowI (P i n) (A n) (G i)) (max (count A G 1050253722#32 i) 1)) (C 1090519040#32)

/-- The class loss. -/
def lossC : EReal :=
  Ideal.div (∑ i, Ideal.div (∑ n, rowC (Q i n) (A n) (G i)) (max (count A G 1056964608#32 i) 1)) (C 1090519040#32)

/-- The regression loss. -/
def lossR : EReal :=
  Ideal.div (∑ i, Ideal.div (∑ n, rowR (R i n) (A n) (G i)) (max (count A G 1056964608#32 i * C 1082130432#32) 1)) (C 1090519040#32)

end Cert.Focal

end
-- ==== Proof.Ref.Ops.lean ====
/-
  The reference program as a list of host operations, cut into the stages the proof reads one at a time: what each
  stage writes, that `main` is their run in order, and that the run ends with the arguments unchanged.
-/
module

public import proofs.«01_k».proof.Proof.Gen.ReferenceIdeal
public import Idealize.ShloMosaic.Lib.StableHlo.RunRead
public import Idealize.ShloMosaic.Lib.Pipeline.Frame

@[expose] public section

set_option maxRecDepth 8192

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- The four regression targets of an anchor put side by side. -/
def sideBySide (u0 u1 u2 u3 : (⟨S8x20000x1, .f32⟩ : BufTy).Contents (Elt F)) : (⟨S8x20000x4, .f32⟩ : BufTy).Contents (Elt F) :=
  concatenate S8x20000x4 2 [⟨S8x20000x1, u0⟩, ⟨S8x20000x1, u1⟩, ⟨S8x20000x1, u2⟩, ⟨S8x20000x1, u3⟩]
    concatenates_S8x20000x1_S8x20000x1_S8x20000x1_S8x20000x1_S8x20000x4_d2

/-- Host operations of `main`: anchor sizes and centres, and the two clipped probability arrays. -/
abbrev lA : List (HloOp τ sig (Elt F)) :=
  [ reshape main_arg3 main_v0 (rfl : (.f32 : EltTy) = .f32) shapeCasts_S1x20000x4_S20000x4,
    unary main_v0 main_v1 ((extractStridedSlice S20000x1 ![0, 3] · slices_S20000x4_S20000x1_0_3) : (⟨S20000x4, .f32⟩ : BufTy).Contents (Elt F) → (⟨S20000x1, .f32⟩ : BufTy).Contents (Elt F)),
    reshape main_v1 main_v2 (rfl : (.f32 : EltTy) = .f32) shapeCasts_S20000x1_S20000,
    unary main_v0 main_v3 ((extractStridedSlice S20000x1 ![0, 1] · slices_S20000x4_S20000x1_0_1) : (⟨S20000x4, .f32⟩ : BufTy).Contents (Elt F) → (⟨S20000x1, .f32⟩ : BufTy).Contents (Elt F)),
    reshape main_v3 main_v4 (rfl : (.f32 : EltTy) = .f32) shapeCasts_S20000x1_S20000,
    binary main_v2 main_v4 main_v5 (subf : (⟨S20000, .f32⟩ : BufTy).Contents (Elt F) → (⟨S20000, .f32⟩ : BufTy).Contents (Elt F) → (⟨S20000, .f32⟩ : BufTy).Contents (Elt F)),
    unary main_v0 main_v6 ((extractStridedSlice S20000x1 ![0, 2] · slices_S20000x4_S20000x1_0_2) : (⟨S20000x4, .f32⟩ : BufTy).Contents (Elt F) → (⟨S20000x1, .f32⟩ : BufTy).Contents (Elt F)),
    reshape main_v6 main_v7 (rfl : (.f32 : EltTy) = .f32) shapeCasts_S20000x1_S20000,
    unary main_v0 main_v8 ((extractStridedSlice S20000x1 ![0, 0] · slices_S20000x4_S20000x1_0_0) : (⟨S20000x4, .f32⟩ : BufTy).Contents (Elt F) → (⟨S20000x1, .f32⟩ : BufTy).Contents (Elt F)),
    reshape main_v8 main_v9 (rfl : (.f32 : EltTy) = .f32) shapeCasts_S20000x1_S20000,
    binary main_v7 main_v9 main_v10 (subf : (⟨S20000, .f32⟩ : BufTy).Contents (Elt F) → (⟨S20000, .f32⟩ : BufTy).Contents (Elt F) → (⟨S20000, .f32⟩ : BufTy).Contents (Elt F)),
    unary main_v0 main_v11 ((extractStridedSlice S20000x1 ![0, 1] · slices_S20000x4_S20000x1_0_1) : (⟨S20000x4, .f32⟩ : BufTy).Contents (Elt F) → (⟨S20000x1, .f32⟩ : BufTy).Contents (Elt F)),
    reshape main_v11 main_v12 (rfl : (.f32 : EltTy) = .f32) shapeCasts_S20000x1_S20000,
    nullary main_cst (constant S_ .f32 0x3F000000#32),
    unary main_cst main_v13 (broadcastInDim S20000 ![] bcast_S_S20000 : (⟨S_, .f32⟩ : BufTy).Contents (Elt F) → (⟨S20000, .f32⟩ : BufTy).Contents (Elt F)),
    binary main_v13 main_v5 main_v14 (mulf : (⟨S20000, .f32⟩ : BufTy).Contents (Elt F) → (⟨S20000, .f32⟩ : BufTy).Contents (Elt F) → (⟨S20000, .f32⟩ : BufTy).Contents (Elt F)),
    binary main_v12 main_v14 main_v15 (addf : (⟨S20000, .f32⟩ : BufTy).Contents (Elt F) → (⟨S20000, .f32⟩ : BufTy).Contents (Elt F) → (⟨S20000, .f32⟩ : BufTy).Contents (Elt F)),
    unary main_v0 main_v16 ((extractStridedSlice S20000x1 ![0, 0] · slices_S20000x4_S20000x1_0_0) : (⟨S20000x4, .f32⟩ : BufTy).Contents (Elt F) → (⟨S20000x1, .f32⟩ : BufTy).Contents (Elt F)),
    reshape main_v16 main_v17 (rfl : (.f32 : EltTy) = .f32) shapeCasts_S20000x1_S20000,
    nullary main_cst_0 (constant S_ .f32 0x3F000000#32),
    unary main_cst_0 main_v18 (broadcastInDim S20000 ![] bcast_S_S20000 : (⟨S_, .f32⟩ : BufTy).Contents (Elt F) → (⟨S20000, .f32⟩ : BufTy).Contents (Elt F)),
    binary main_v18 main_v10 main_v19 (mulf : (⟨S20000, .f32⟩ : BufTy).Contents (Elt F) → (⟨S20000, .f32⟩ : BufTy).Contents (Elt F) → (⟨S20000, .f32⟩ : BufTy).Contents (Elt F)),
    binary main_v17 main_v19 main_v20 (addf : (⟨S20000, .f32⟩ : BufTy).Contents (Elt F) → (⟨S20000, .f32⟩ : BufTy).Contents (Elt F) → (⟨S20000, .f32⟩ : BufTy).Contents (Elt F)),
    nullary main_cst_1 (constant S_ .f32 0x38D1B717#32),
    nullary main_cst_2 (constant S_ .f32 0x3F7FF972#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8x20000x1, .f32⟩) main_call0_v1) (broadcastInDim S8x20000x1 ![] bcast_S_S8x20000x1),
    TRef.binary (TRef.of (T := ⟨S8x20000x1, .f32⟩) main_call0_v1) (TRef.of (T := ⟨S8x20000x1, .f32⟩) main_arg0) (TRef.of (T := ⟨S8x20000x1, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S8x20000x1, .f32⟩) main_call0_v4) (broadcastInDim S8x20000x1 ![] bcast_S_S8x20000x1),
    TRef.binary (TRef.of (T := ⟨S8x20000x1, .f32⟩) main_call0_v4) (TRef.of (T := ⟨S8x20000x1, .f32⟩) main_call0_v2) (TRef.of (T := ⟨S8x20000x1, .f32⟩) main_v21) minimumf,
    nullary main_cst_3 (constant S_ .f32 0x38D1B717#32),
    nullary main_cst_4 (constant S_ .f32 0x3F7FF972#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S8x20000x80, .f32⟩) main_call1_v1) (broadcastInDim S8x20000x80 ![] bcast_S_S8x20000x80),
    TRef.binary (TRef.of (T := ⟨S8x20000x80, .f32⟩) main_call1_v1) (TRef.of (T := ⟨S8x20000x80, .f32⟩) main_arg1) (TRef.of (T := ⟨S8x20000x80, .f32⟩) main_call1_v2) maximumf,
    TRef.unary (TRef.of (T := ⟨S_, .f32⟩) main_cst_4) (TRef.of (T := ⟨S_, .f32⟩) main_call1_v3) id,
    TRef.unary (TRef.of (T := ⟨S_, .f32⟩) main_call1_v3) (TRef.of (T := ⟨S8x20000x80, .f32⟩) main_call1_v4) (broadcastInDim S8x20000x80 ![] bcast_S_S8x20000x80),
    TRef.binary (TRef.of (T := ⟨S8x20000x80, .f32⟩) main_call1_v4) (TRef.of (T := ⟨S8x20000x80, .f32⟩) main_call1_v2) (TRef.of (T := ⟨S8x20000x80, .f32⟩) main_v22) minimumf ]

/-- Host operations of `main`: annotation boxes and the first overlap side, begun. -/
abbrev lB0 : List (HloOp τ sig (Elt F)) :=
  [ unary main_arg4 main_v23 ((extractStridedSlice S8x100x4 ![0, 0, 0] · slices_S8x100x6_S8x100x4_0_0_0) : (⟨S8x100x6, .f32⟩ : BufTy).Contents (Elt F) → (⟨S8x100x4, .f32⟩ : BufTy).Contents (Elt F)),
    unary main_v23 main_v24 ((extractStridedSlice S8x100x1 ![0, 0, 2] · slices_S8x100x4_S8x100x1_0_0_2) : (⟨S8x100x4, .f32⟩ : BufTy).Contents (Elt F) → (⟨S8x100x1, .f32⟩ : BufTy).Contents (Elt F)),
    reshape main_v24 main_v25 (rfl : (.f32 : EltTy) = .f32) shapeCasts_S8x100x1_S8x100,
    unary main_v23 main_v26 ((extractStridedSlice S8x100x1 ![0, 0, 0] · slices_S8x100x4_S8x100x1_0_0_0) : (⟨S8x100x4, .f32⟩ : BufTy).Contents (Elt F) → (⟨S8x100x1, .f32⟩ : BufTy).Contents (Elt F)),
    reshape main_v26 main_v27 (rfl : (.f32 : EltTy) = .f32) shapeCasts_S8x100x1_S8x100,
    binary main_v25 main_v27 main_v28 (subf : (⟨S8x100, .f32⟩ : BufTy).Contents (Elt F) → (⟨S8x100, .f32⟩ : BufTy).Contents (Elt F) → (⟨S8x100, .f32⟩ : BufTy).Contents (Elt F)),
    unary main_v23 main_v29 ((extractStridedSlice S8x100x1 ![0, 0, 3] · slices_S8x100x4_S8x100x1_0_0_3) : (⟨S8x100x4, .f32⟩ : BufTy).Contents (Elt F) → (⟨S8x100x1, .f32⟩ : BufTy).Contents (Elt F)),
    reshape main_v29 main_v30 (rfl : (.f32 : EltTy) = .f32) shapeCasts_S8x100x1_S8x100,
    unary main_v23 main_v31 ((extractStridedSlice S8x100x1 ![0, 0, 1] · slices_S8x100x4_S8x100x1_0_0_1) : (⟨S8x100x4, .f32⟩ : BufTy).Contents (Elt F) → (⟨S8x100x1, .f32⟩ : BufTy).Contents (Elt F)),
    reshape main_v31 main_v32 (rfl : (.f32 : EltTy) = .f32) shapeCasts_S8x100x1_S8x100,
    binary main_v30 main_v32 main_v33 (subf : (⟨S8x100, .f32⟩ : BufTy).Contents (Elt F) → (⟨S8x100, .f32⟩ : BufTy).Contents (Elt F) → (⟨S8x100, .f32⟩ : BufTy).Contents (Elt F)),
    binary main_v28 main_v33 main_v34 (mulf : (⟨S8x100, .f32⟩ : BufTy).Contents (Elt F) → (⟨S8x100, .f32⟩ : BufTy).Contents (Elt F) → (⟨S8x100, .f32⟩ : BufTy).Contents (Elt F)),
    unary main_v0 main_v35 ((extractStridedSlice S20000x1 ![0, 3] · slices_S20000x4_S20000x1_0_3) : (⟨S20000x4, .f32⟩ : BufTy).Contents (Elt F) → (⟨S20000x1, .f32⟩ : BufTy).Contents (Elt F)),
    reshape main_v35 main_v36 (rfl : (.f32 : EltTy) = .f32) shapeCasts_S20000x1_S20000,
    unary main_v36 main_v37 (broadcastInDim S20000x1 ![0] bcast_S20000_S20000x1_0 : (⟨S20000, .f32⟩ : BufTy).Contents (Elt F) → (⟨S20000x1, .f32⟩ : BufTy).Contents (Elt F)),
    unary main_v23 main_v38 ((extractStridedSlice S8x100x1 ![0, 0, 2] · slices_S8x100x4_S8x100x1_0_0_2) : (⟨S8x100x4, .f32⟩ : BufTy).Contents (Elt F) → (⟨S8x100x1, .f32⟩ : BufTy).Contents (Elt F)),
    reshape main_v38 main_v39 (rfl : (.f32 : EltTy) = .f32) shapeCasts_S8x100x1_S8x100,
    unary main_v39 main_v40 (broadcastInDim S8x1x100 ![0, 2] bcast_S8x100_S8x1x100_0_2 : (⟨S8x100, .f32⟩ : BufTy).Contents (Elt F) → (⟨S8x1x100, .f32⟩ : BufTy).Contents (Elt F)),
    unary main_v37 main_v41 (broadcastInDim S1x20000x1 ![1, 2] bcast_S20000x1_S1x20000x1_1_2 : (⟨S20000x1, .f32⟩ : BufTy).Contents (Elt F) → (⟨S1x20000x1, .f32⟩ : BufTy).Contents (Elt F)),
    unary main_v41 main_v42 (broadcastInDim S8x20000x100 ![0, 1, 2] bcast_S1x20000x1_S8x20000x100_0_1_2 : (⟨S1x20000x1, .f32⟩ : BufTy).Contents (Elt F) → (⟨S8x20000x100, .f32⟩ : BufTy).Contents (Elt F)),
    unary main_v40 main_v43 (broadcastInDim S8x20000x100 ![0, 1, 2] bcast_S8x1x100_S8x20000x100_0_1_2 : (⟨S8x1x100, .f32⟩ : BufTy).Contents (Elt F) → (⟨S8x20000x100, .f32⟩ : BufTy).Contents (Elt F)),
    binary main_v42 main_v43 main_v44 (minimumf : (⟨S8x20000x100, .f32⟩ : BufTy).Contents (Elt F) → (⟨S8x20000x100, .f32⟩ : BufTy).Contents (Elt F) → (⟨S8x20000x100, .f32⟩ : BufTy).Contents (Elt F)),
    unary main_v0 main_v45 ((extractStridedSlice S20000x1 ![0, 1] · slices_S20000x4_S20000x1_0_1) : (⟨S20000x4, .f32⟩ : BufTy).Contents (Elt F) → (⟨S20000x1, .f32⟩ : BufTy).Contents (Elt F)),
    reshape main_v45 main_v46 (rfl : (.f32 : EltTy) = .f32) shapeCasts_S20000x1_S20000,
    unary main_v46 main_v47 (broadcastInDim S20000x1 ![0] bcast_S20000_S20000x1_0 : (⟨S20000, .f32⟩ : BufTy).Contents (Elt F) → (⟨S20000x1, .f32⟩ : BufTy).Contents (Elt F)),
    unary main_v23 main_v48 ((extractStridedSlice S8x100x1 ![0, 0, 0] · slices_S8x100x4_S8x100x1_0_0_0) : (⟨S8x100x4, .f32⟩ : BufTy).Contents (Elt F) → (⟨S8x100x1, .f32⟩ : BufTy).Contents (Elt F)),
    reshape main_v48 main_v49 (rfl : (.f32 : EltTy) = .f32) shapeCasts_S8x100x1_S8x100,
    unary main_v49 main_v50 (broadcastInDim S8x1x100 ![0, 2] bcast_S8x100_S8x1x100_0_2 : (⟨S8x100, .f32⟩ : BufTy).Contents (Elt F) → (⟨S8x1x100, .f32⟩ : BufTy).Contents (Elt F)),
    unary main_v47 main_v51 (broadcastInDim S1x20000x1 ![1, 2] bcast_S20000x1_S1x20000x1_1_2 : (⟨S20000x1, .f32⟩ : BufTy).Contents (Elt F) → (⟨S1x20000x1, .f32⟩ : BufTy).Contents (Elt F)),
    unary main_v51 main_v52 (broadcastInDim S8x20000x100 ![0, 1, 2] bcast_S1x20000x1_S8x20000x100_0_1_2 : (⟨S1x20000x1, .f32⟩ : BufTy).Contents (Elt F) → (⟨S8x20000x100, .f32⟩ : BufTy).Contents (Elt F)),
    unary main_v50 main_v53 (broadcastInDim S8x20000x100 ![0, 1, 2] bcast_S8x1x100_S8x20000x100_0_1_2 : (⟨S8x1x100, .f32⟩ : BufTy).Contents (Elt F) → (⟨S8x20000x100, .f32⟩ : BufTy).Contents (Elt F)) ]

/-- Host operations of `main`: intersection over union of every anchor with every annotation. -/
abbrev lB1 : List (HloOp τ sig (Elt F)) :=
  [ binary main_v52 main_v53 main_v54 (maximumf : (⟨S8x20000x100, .f32⟩ : BufTy).Contents (Elt F) → (⟨S8x20000x100, .f32⟩ : BufTy).Contents (Elt F) → (⟨S8x20000x100, .f32⟩ : BufTy).Contents (Elt F)),
    binary main_v44 main_v54 main_v55 (subf : (⟨S8x20000x100, .f32⟩ : BufTy).Contents (Elt F) → (⟨S8x20000x100, .f32⟩ : BufTy).Contents (Elt F) → (⟨S8x20000x100, .f32⟩ : BufTy).Contents (Elt F)),
    unary main_v0 main_v56 ((extractStridedSlice S20000x1 ![0, 2] · slices_S20000x4_S20000x1_0_2) : (⟨S20000x4, .f32⟩ : BufTy).Contents (Elt F) → (⟨S20000x1, .f32⟩ : BufTy).Contents (Elt F)),
    reshape main_v56 main_v57 (rfl : (.f32 : EltTy) = .f32) shapeCasts_S20000x1_S20000,
    unary main_v57 main_v58 (broadcastInDim S20000x1 ![0] bcast_S20000_S20000x1_0 : (⟨S20000, .f32⟩ : BufTy).Contents (Elt F) → (⟨S20000x1, .f32⟩ : BufTy).Contents (Elt F)),
    unary main_v23 main_v59 ((extractStridedSlice S8x100x1 ![0, 0, 3] · slices_S8x100x4_S8x100x1_0_0_3) : (⟨S8x100x4, .f32⟩ : BufTy).Contents (Elt F) → (⟨S8x100x1, .f32⟩ : BufTy).Contents (Elt F)),
    reshape main_v59 main_v60 (rfl : (.f32 : EltTy) = .f32) shapeCasts_S8x100x1_S8x100,
    unary main_v60 main_v61 (broadcastInDim S8x1x100 ![0, 2] bcast_S8x100_S8x1x100_0_2 : (⟨S8x100, .f32⟩ : BufTy).Contents (Elt F) → (⟨S8x1x100, .f32⟩ : BufTy).Contents (Elt F)),
    unary main_v58 main_v62 (broadcastInDim S1x20000x1 ![1, 2] bcast_S20000x1_S1x20000x1_1_2 : (⟨S20000x1, .f32⟩ : BufTy).Contents (Elt F) → (⟨S1x20000x1, .f32⟩ : BufTy).Contents (Elt F)),
    unary main_v62 main_v63 (broadcastInDim S8x20000x100 ![0, 1, 2] bcast_S1x20000x1_S8x20000x100_0_1_2 : (⟨S1x20000x1, .f32⟩ : BufTy).Contents (Elt F) → (⟨S8x20000x100, .f32⟩ : BufTy).Contents (Elt F)),
    unary main_v61 main_v64 (broadcastInDim S8x20000x100 ![0, 1, 2] bcast_S8x1x100_S8x20000x100_0_1_2 : (⟨S8x1x100, .f32⟩ : BufTy).Contents (Elt F) → (⟨S8x20000x100, .f32⟩ : BufTy).Contents (Elt F)),
    binary main_v63 main_v64 main_v65 (minimumf : (⟨S8x20000x100, .f32⟩ : BufTy).Contents (Elt F) → (⟨S8x20000x100, .f32⟩ : BufTy).Contents (Elt F) → (⟨S8x20000x100, .f32⟩ : BufTy).Contents (Elt F)),
    unary main_v0 main_v66 ((extractStridedSlice S20000x1 ![0, 0] · slices_S20000x4_S20000x1_0_0) : (⟨S20000x4, .f32⟩ : BufTy).Contents (Elt F) → (⟨S20000x1, .f32⟩ : BufTy).Contents (Elt F)),
    reshape main_v66 main_v67 (rfl : (.f32 : EltTy) = .f32) shapeCasts_S20000x1_S20000,
    unary main_v67 main_v68 (broadcastInDim S20000x1 ![0] bcast_S20000_S20000x1_0 : (⟨S20000, .f32⟩ : BufTy).Contents (Elt F) → (⟨S20000x1, .f32⟩ : BufTy).Contents (Elt F)),
    unary main_v23 main_v69 ((extractStridedSlice S8x100x1 ![0, 0, 1] · slices_S8x100x4_S8x100x1_0_0_1) : (⟨S8x100x4, .f32⟩ : BufTy).Contents (Elt F) → (⟨S8x100x1, .f32⟩ : BufTy).Contents (Elt F)),
    reshape main_v69 main_v70 (rfl : (.f32 : EltTy) = .f32) shapeCasts_S8x100x1_S8x100,
    unary main_v70 main_v71 (broadcastInDim S8x1x100 ![0, 2] bcast_S8x100_S8x1x100_0_2 : (⟨S8x100, .f32⟩ : BufTy).Contents (Elt F) → (⟨S8x1x100, .f32⟩ : BufTy).Contents (Elt F)),
    unary main_v68 main_v72 (broadcastInDim S1x20000x1 ![1, 2] bcast_S20000x1_S1x20000x1_1_2 : (⟨S20000x1, .f32⟩ : BufTy).Contents (Elt F) → (⟨S1x20000x1, .f32⟩ : BufTy).Contents (Elt F)),
    unary main_v72 main_v73 (broadcastInDim S8x20000x100 ![0, 1, 2] bcast_S1x20000x1_S8x20000x100_0_1_2 : (⟨S1x20000x1, .f32⟩ : BufTy).Contents (Elt F) → (⟨S8x20000x100, .f32⟩ : BufTy).Contents (Elt F)),
    unary main_v71 main_v74 (broadcastInDim S8x20000x100 ![0, 1, 2] bcast_S8x1x100_S8x20000x100_0_1_2 : (⟨S8x1x100, .f32⟩ : BufTy).Contents (Elt F) → (⟨S8x20000x100, .f32⟩ : BufTy).Contents (Elt F)),
    binary main_v73 main_v74 main_v75 (maximumf : (⟨S8x20000x100, .f32⟩ : BufTy).Contents (Elt F) → (⟨S8x20000x100, .f32⟩ : BufTy).Contents (Elt F) → (⟨S8x20000x100, .f32⟩ : BufTy).Contents (Elt F)),
    binary main_v65 main_v75 main_v76 (subf : (⟨S8x20000x100, .f32⟩ : BufTy).Contents (Elt F) → (⟨S8x20000x100, .f32⟩ : BufTy).Contents (Elt F) → (⟨S8x20000x100, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8x20000x100, .f32⟩) main_call2_v1) (broadcastInDim S8x20000x100 ![] bcast_S_S8x20000x100),
    TRef.binary (TRef.of (T := ⟨S8x20000x100, .f32⟩) main_call2_v1) (TRef.of (T := ⟨S8x20000x100, .f32⟩) main_v55) (TRef.of (T := ⟨S8x20000x100, .f32⟩) main_v77) maximumf,
    nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S8x20000x100, .f32⟩) main_call3_v1) (broadcastInDim S8x20000x100 ![] bcast_S_S8x20000x100),
    TRef.binary (TRef.of (T := ⟨S8x20000x100, .f32⟩) main_call3_v1) (TRef.of (T := ⟨S8x20000x100, .f32⟩) main_v76) (TRef.of (T := ⟨S8x20000x100, .f32⟩) main_v78) maximumf,
    unary main_v0 main_v79 ((extractStridedSlice S20000x1 ![0, 2] · slices_S20000x4_S20000x1_0_2) : (⟨S20000x4, .f32⟩ : BufTy).Contents (Elt F) → (⟨S20000x1, .f32⟩ : BufTy).Contents (Elt F)),
    reshape main_v79 main_v80 (rfl : (.f32 : EltTy) = .f32) shapeCasts_S20000x1_S20000,
    unary main_v0 main_v81 ((extractStridedSlice S20000x1 ![0, 0] · slices_S20000x4_S20000x1_0_0) : (⟨S20000x4, .f32⟩ : BufTy).Contents (Elt F) → (⟨S20000x1, .f32⟩ : BufTy).Contents (Elt F)),
    reshape main_v81 main_v82 (rfl : (.f32 : EltTy) = .f32) shapeCasts_S20000x1_S20000,
    binary main_v80 main_v82 main_v83 (subf : (⟨S20000, .f32⟩ : BufTy).Contents (Elt F) → (⟨S20000, .f32⟩ : BufTy).Contents (Elt F) → (⟨S20000, .f32⟩ : BufTy).Contents (Elt F)),
    unary main_v0 main_v84 ((extractStridedSlice S20000x1 ![0, 3] · slices_S20000x4_S20000x1_0_3) : (⟨S20000x4, .f32⟩ : BufTy).Contents (Elt F) → (⟨S20000x1, .f32⟩ : BufTy).Contents (Elt F)),
    reshape main_v84 main_v85 (rfl : (.f32 : EltTy) = .f32) shapeCasts_S20000x1_S20000,
    unary main_v0 main_v86 ((extractStridedSlice S20000x1 ![0, 1] · slices_S20000x4_S20000x1_0_1) : (⟨S20000x4, .f32⟩ : BufTy).Contents (Elt F) → (⟨S20000x1, .f32⟩ : BufTy).Contents (Elt F)),
    reshape main_v86 main_v87 (rfl : (.f32 : EltTy) = .f32) shapeCasts_S20000x1_S20000,
    binary main_v85 main_v87 main_v88 (subf : (⟨S20000, .f32⟩ : BufTy).Contents (Elt F) → (⟨S20000, .f32⟩ : BufTy).Contents (Elt F) → (⟨S20000, .f32⟩ : BufTy).Contents (Elt F)),
    binary main_v83 main_v88 main_v89 (mulf : (⟨S20000, .f32⟩ : BufTy).Contents (Elt F) → (⟨S20000, .f32⟩ : BufTy).Contents (Elt F) → (⟨S20000, .f32⟩ : BufTy).Contents (Elt F)),
    unary main_v89 main_v90 (broadcastInDim S20000x1 ![0] bcast_S20000_S20000x1_0 : (⟨S20000, .f32⟩ : BufTy).Contents (Elt F) → (⟨S20000x1, .f32⟩ : BufTy).Contents (Elt F)),
    unary main_v34 main_v91 (broadcastInDim S8x1x100 ![0, 2] bcast_S8x100_S8x1x100_0_2 : (⟨S8x100, .f32⟩ : BufTy).Contents (Elt F) → (⟨S8x1x100, .f32⟩ : BufTy).Contents (Elt F)),
    unary main_v90 main_v92 (broadcastInDim S1x20000x1 ![1, 2] bcast_S20000x1_S1x20000x1_1_2 : (⟨S20000x1, .f32⟩ : BufTy).Contents (Elt F) → (⟨S1x20000x1, .f32⟩ : BufTy).Contents (Elt F)),
    unary main_v92 main_v93 (broadcastInDim S8x20000x100 ![0, 1, 2] bcast_S1x20000x1_S8x20000x100_0_1_2 : (⟨S1x20000x1, .f32⟩ : BufTy).Contents (Elt F) → (⟨S8x20000x100, .f32⟩ : BufTy).Contents (Elt F)),
    unary main_v91 main_v94 (broadcastInDim S8x20000x100 ![0, 1, 2] bcast_S8x1x100_S8x20000x100_0_1_2 : (⟨S8x1x100, .f32⟩ : BufTy).Contents (Elt F) → (⟨S8x20000x100, .f32⟩ : BufTy).Contents (Elt F)),
    binary main_v93 main_v94 main_v95 (addf : (⟨S8x20000x100, .f32⟩ : BufTy).Contents (Elt F) → (⟨S8x20000x100, .f32⟩ : BufTy).Contents (Elt F) → (⟨S8x20000x100, .f32⟩ : BufTy).Contents (Elt F)),
    binary main_v77 main_v78 main_v96 (mulf : (⟨S8x20000x100, .f32⟩ : BufTy).Contents (Elt F) → (⟨S8x20000x100, .f32⟩ : BufTy).Contents (Elt F) → (⟨S8x20000x100, .f32⟩ : BufTy).Contents (Elt F)),
    binary main_v95 main_v96 main_v97 (subf : (⟨S8x20000x100, .f32⟩ : BufTy).Contents (Elt F) → (⟨S8x20000x100, .f32⟩ : BufTy).Contents (Elt F) → (⟨S8x20000x100, .f32⟩ : BufTy).Contents (Elt F)),
    nullary main_cst_7 (constant S_ .f32 0x322BCC77#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S8x20000x100, .f32⟩) main_call4_v1) (broadcastInDim S8x20000x100 ![] bcast_S_S8x20000x100),
    TRef.binary (TRef.of (T := ⟨S8x20000x100, .f32⟩) main_call4_v1) (TRef.of (T := ⟨S8x20000x100, .f32⟩) main_v97) (TRef.of (T := ⟨S8x20000x100, .f32⟩) main_v98) maximumf,
    binary main_v77 main_v78 main_v99 (mulf : (⟨S8x20000x100, .f32⟩ : BufTy).Contents (Elt F) → (⟨S8x20000x100, .f32⟩ : BufTy).Contents (Elt F) → (⟨S8x20000x100, .f32⟩ : BufTy).Contents (Elt F)),
    binary main_v99 main_v98 main_v100 (Host.divf : (⟨S8x20000x100, .f32⟩ : BufTy).Contents (Elt F) → (⟨S8x20000x100, .f32⟩ : BufTy).Contents (Elt F) → (⟨S8x20000x100, .f32⟩ : BufTy).Contents (Elt F)) ]

/-- Host operations of `main`: the best overlap of an anchor and the number of the annotation that attains it. -/
abbrev lC0 : List (HloOp τ sig (Elt F)) :=
  [ nullary main_cst_8 (constant S_ .f32 0xFF800000#32),
    binary main_v100 main_cst_8 main_v101 ((fun x v => Host.reduce FloatOps.maximumf x v reducesTo_S8x20000x100_S8x20000_d2 h_S_) : (⟨S8x20000x100, .f32⟩ : BufTy).Contents (Elt F) → (⟨S_, .f32⟩ : BufTy).Contents (Elt F) → (⟨S8x20000, .f32⟩ : BufTy).Contents (Elt F)),
    TRef.nullary (TRef.of (T := ⟨S8x20000x100, .i32⟩) main_call5_v0) (iotaInDim S8x20000x100 32 2),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S8x20000x100, .f32⟩) main_v100) (TRef.of (T := ⟨S8x20000x100, .i32⟩) main_call5_v0) (TRef.of (T := ⟨S_, .f32⟩) main_call5_cst) (TRef.of (T := ⟨S_, .i32⟩) main_call5_c) (TRef.of (T := ⟨S8x20000, .f32⟩) main_call5_v1_0) (fun x y u v j => (Host.argReduce reducer_argmax_f32_i32 x y u v reducesTo_S8x20000x100_S8x20000_d2 h_S_ j).1),
    TRef.quaternary (TRef.of (T := ⟨S8x20000x100, .f32⟩) main_v100) (TRef.of (T := ⟨S8x20000x100, .i32⟩) main_call5_v0) (TRef.of (T := ⟨S_, .f32⟩) main_call5_cst) (TRef.of (T := ⟨S_, .i32⟩) main_call5_c) (TRef.of (T := ⟨S8x20000, .i32⟩) main_v102) (fun x y u v j => (Host.argReduce reducer_argmax_f32_i32 x y u v reducesTo_S8x20000x100_S8x20000_d2 h_S_ j).2),
    nullary main_c (constantI S_ 32 0#32),
    unary main_c main_v103 (broadcastInDim S8x20000 ![] bcast_S_S8x20000 : (⟨S_, .i32⟩ : BufTy).Contents (Elt F) → (⟨S8x20000, .i32⟩ : BufTy).Contents (Elt F)),
    binary main_v102 main_v103 main_v104 (cmpi .slt : (⟨S8x20000, .i32⟩ : BufTy).Contents (Elt F) → (⟨S8x20000, .i32⟩ : BufTy).Contents (Elt F) → (⟨S8x20000, .i1⟩ : BufTy).Contents (Elt F)),
    nullary main_c_9 (constantI S_ 32 100#32),
    unary main_c_9 main_v105 (broadcastInDim S8x20000 ![] bcast_S_S8x20000 : (⟨S_, .i32⟩ : BufTy).Contents (Elt F) → (⟨S8x20000, .i32⟩ : BufTy).Contents (Elt F)),
    binary main_v102 main_v105 main_v106 (addi : (⟨S8x20000, .i32⟩ : BufTy).Contents (Elt F) → (⟨S8x20000, .i32⟩ : BufTy).Contents (Elt F) → (⟨S8x20000, .i32⟩ : BufTy).Contents (Elt F)),
    ternary main_v104 main_v106 main_v102 main_v107 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)) ]

/-- Host operations of `main`: the assigned annotation, gathered. -/
abbrev lC1 : List (HloOp τ sig (Elt F)) :=
  [ unary main_v107 main_v108 (broadcastInDim S8x20000x1 ![0, 1] bcast_S8x20000_S8x20000x1_0_1 : (⟨S8x20000, .i32⟩ : BufTy).Contents (Elt F) → (⟨S8x20000x1, .i32⟩ : BufTy).Contents (Elt F)),
    binary main_arg4 main_v108 main_v109 ((fun x i => Host.gather gather_S8x100x6_S8x20000x1_S8x20000x6_2_1_0_0_1_2_116 x i) : (⟨S8x100x6, .f32⟩ : BufTy).Contents (Elt F) → (⟨S8x20000x1, .i32⟩ : BufTy).Contents (Elt F) → (⟨S8x20000x6, .f32⟩ : BufTy).Contents (Elt F)) ]

/-- Host operations of `main`: positive masks and their counts. -/
abbrev lD : List (HloOp τ sig (Elt F)) :=
  [ nullary main_cst_10 (constant S_ .f32 0x3F000000#32),
    unary main_cst_10 main_v110 (broadcastInDim S8x20000 ![] bcast_S_S8x20000 : (⟨S_, .f32⟩ : BufTy).Contents (Elt F) → (⟨S8x20000, .f32⟩ : BufTy).Contents (Elt F)),
    binary main_v101 main_v110 main_v111 (cmpf .oge : (⟨S8x20000, .f32⟩ : BufTy).Contents (Elt F) → (⟨S8x20000, .f32⟩ : BufTy).Contents (Elt F) → (⟨S8x20000, .i1⟩ : BufTy).Contents (Elt F)),
    nullary main_cst_11 (constant S_ .f32 0x3E99999A#32),
    unary main_cst_11 main_v112 (broadcastInDim S8x20000 ![] bcast_S_S8x20000 : (⟨S_, .f32⟩ : BufTy).Contents (Elt F) → (⟨S8x20000, .f32⟩ : BufTy).Contents (Elt F)),
    binary main_v101 main_v112 main_v113 (cmpf .oge : (⟨S8x20000, .f32⟩ : BufTy).Contents (Elt F) → (⟨S8x20000, .f32⟩ : BufTy).Contents (Elt F) → (⟨S8x20000, .i1⟩ : BufTy).Contents (Elt F)),
    unary main_v111 main_v114 ((extui 32 · natLt_1_32) : (⟨S8x20000, .i1⟩ : BufTy).Contents (Elt F) → (⟨S8x20000, .i32⟩ : BufTy).Contents (Elt F)),
    nullary main_c_12 (constantI S_ 32 0#32),
    binary main_v114 main_c_12 main_v115 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    unary main_v115 main_v116 (sitofp .f32 : (⟨S8, .i32⟩ : BufTy).Contents (Elt F) → (⟨S8, .f32⟩ : BufTy).Contents (Elt F)),
    unary main_v113 main_v117 ((extui 32 · natLt_1_32) : (⟨S8x20000, .i1⟩ : BufTy).Contents (Elt F) → (⟨S8x20000, .i32⟩ : BufTy).Contents (Elt F)),
    nullary main_c_13 (constantI S_ 32 0#32),
    binary main_v117 main_c_13 main_v118 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    unary main_v118 main_v119 (sitofp .f32 : (⟨S8, .i32⟩ : BufTy).Contents (Elt F) → (⟨S8, .f32⟩ : BufTy).Contents (Elt F)) ]

/-- Host operations of `main`: class targets. -/
abbrev lE1 : List (HloOp τ sig (Elt F)) :=
  [ nullary main_cst_14 (constant S_ .f32 0xBF800000#32),
    unary main_cst_14 main_v120 (broadcastInDim S20000x80 ![] bcast_S_S20000x80 : (⟨S_, .f32⟩ : BufTy).Contents (Elt F) → (⟨S20000x80, .f32⟩ : BufTy).Contents (Elt F)),
    nullary main_cst_15 (constant S_ .f32 0x3ECCCCCD#32),
    unary main_cst_15 main_v121 (broadcastInDim S8x20000 ![] bcast_S_S8x20000 : (⟨S_, .f32⟩ : BufTy).Contents (Elt F) → (⟨S8x20000, .f32⟩ : BufTy).Contents (Elt F)),
    binary main_v101 main_v121 main_v122 (cmpf .olt : (⟨S8x20000, .f32⟩ : BufTy).Contents (Elt F) → (⟨S8x20000, .f32⟩ : BufTy).Contents (Elt F) → (⟨S8x20000, .i1⟩ : BufTy).Contents (Elt F)),
    unary main_v122 main_v123 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_16 (constant S_ .f32 0x00000000#32),
    TRef.unary (TRef.of (T := ⟨S_, .f32⟩) main_cst_16) (TRef.of (T := ⟨S_, .f32⟩) main_call6_v0) id,
    TRef.unary (TRef.of (T := ⟨S8x20000x1, .i1⟩) main_v123) (TRef.of (T := ⟨S8x20000x80, .i1⟩) main_call6_v1) (broadcastInDim S8x20000x80 ![0, 1, 2] bcast_S8x20000x1_S8x20000x80_0_1_2),
    TRef.unary (TRef.of (T := ⟨S_, .f32⟩) main_call6_v0) (TRef.of (T := ⟨S20000x80, .f32⟩) main_call6_v2) (broadcastInDim S20000x80 ![] bcast_S_S20000x80),
    TRef.unary (TRef.of (T := ⟨S20000x80, .f32⟩) main_v120) (TRef.of (T := ⟨S8x20000x80, .f32⟩) main_call6_v3) (broadcastInDim S8x20000x80 ![1, 2] bcast_S20000x80_S8x20000x80_1_2),
    TRef.unary (TRef.of (T := ⟨S20000x80, .f32⟩) main_call6_v2) (TRef.of (T := ⟨S8x20000x80, .f32⟩) main_call6_v4) (broadcastInDim S8x20000x80 ![1, 2] bcast_S20000x80_S8x20000x80_1_2),
    TRef.ternary (TRef.of (T := ⟨S8x20000x80, .i1⟩) main_call6_v1) (TRef.of (T := ⟨S8x20000x80, .f32⟩) main_call6_v4) (TRef.of (T := ⟨S8x20000x80, .f32⟩) main_call6_v3) (TRef.of (T := ⟨S8x20000x80, .f32⟩) main_v124) select,
    unary main_v111 main_v125 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_17 (constant S_ .f32 0x00000000#32),
    TRef.unary (TRef.of (T := ⟨S_, .f32⟩) main_cst_17) (TRef.of (T := ⟨S_, .f32⟩) main_call7_v0) id,
    TRef.unary (TRef.of (T := ⟨S8x20000x1, .i1⟩) main_v125) (TRef.of (T := ⟨S8x20000x80, .i1⟩) main_call7_v1) (broadcastInDim S8x20000x80 ![0, 1, 2] bcast_S8x20000x1_S8x20000x80_0_1_2),
    TRef.unary (TRef.of (T := ⟨S_, .f32⟩) main_call7_v0) (TRef.of (T := ⟨S20000x80, .f32⟩) main_call7_v2) (broadcastInDim S20000x80 ![] bcast_S_S20000x80),
    TRef.unary (TRef.of (T := ⟨S20000x80, .f32⟩) main_call7_v2) (TRef.of (T := ⟨S8x20000x80, .f32⟩) main_call7_v3) (broadcastInDim S8x20000x80 ![1, 2] bcast_S20000x80_S8x20000x80_1_2),
    TRef.ternary (TRef.of (T := ⟨S8x20000x80, .i1⟩) main_call7_v1) (TRef.of (T := ⟨S8x20000x80, .f32⟩) main_call7_v3) (TRef.of (T := ⟨S8x20000x80, .f32⟩) main_v124) (TRef.of (T := ⟨S8x20000x80, .f32⟩) main_v126) select,
    unary main_v109 main_v127 ((extractStridedSlice S8x20000x1 ![0, 0, 4] · slices_S8x20000x6_S8x20000x1_0_0_4) : (⟨S8x20000x6, .f32⟩ : BufTy).Contents (Elt F) → (⟨S8x20000x1, .f32⟩ : BufTy).Contents (Elt F)),
    reshape main_v127 main_v128 (rfl : (.f32 : EltTy) = .f32) shapeCasts_S8x20000x1_S8x20000,
    unary main_v128 main_v129 (fptosi 32 : (⟨S8x20000, .f32⟩ : BufTy).Contents (Elt F) → (⟨S8x20000, .i32⟩ : BufTy).Contents (Elt F)),
    TRef.unary (TRef.of (T := ⟨S8x20000, .i32⟩) main_v129) (TRef.of (T := ⟨S8x20000x1, .i32⟩) main_call8_v0) (broadcastInDim S8x20000x1 ![0, 1] bcast_S8x20000_S8x20000x1_0_1),
    TRef.nullary (TRef.of (T := ⟨S1x80, .i32⟩) main_call8_v1) (iotaInDim S1x80 32 1),
    TRef.unary (TRef.of (T := ⟨S1x80, .i32⟩) main_call8_v1) (TRef.of (T := ⟨S1x1x80, .i32⟩) main_call8_v2) (broadcastInDim S1x1x80 ![1, 2] bcast_S1x80_S1x1x80_1_2),
    TRef.unary (TRef.of (T := ⟨S8x20000x1, .i32⟩) main_call8_v0) (TRef.of (T := ⟨S8x20000x80, .i32⟩) main_call8_v3) (broadcastInDim S8x20000x80 ![0, 1, 2] bcast_S8x20000x1_S8x20000x80_0_1_2),
    TRef.unary (TRef.of (T := ⟨S1x1x80, .i32⟩) main_call8_v2) (TRef.of (T := ⟨S8x20000x80, .i32⟩) main_call8_v4) (broadcastInDim S8x20000x80 ![0, 1, 2] bcast_S1x1x80_S8x20000x80_0_1_2),
    TRef.binary (TRef.of (T := ⟨S8x20000x80, .i32⟩) main_call8_v3) (TRef.of (T := ⟨S8x20000x80, .i32⟩) main_call8_v4) (TRef.of (T := ⟨S8x20000x80, .i1⟩) main_call8_v5) (cmpi .eq),
    TRef.unary (TRef.of (T := ⟨S8x20000x80, .i1⟩) main_call8_v5) (TRef.of (T := ⟨S8x20000x80, .f32⟩) main_v130) (uitofp .f32),
    unary main_v111 main_v131 (broadcastInDim S8x20000x1 ![0, 1] bcast_S8x20000_S8x20000x1_0_1 : (⟨S8x20000, .i1⟩ : BufTy).Contents (Elt F) → (⟨S8x20000x1, .i1⟩ : BufTy).Contents (Elt F)),
    TRef.unary (TRef.of (T := ⟨S8x20000x1, .i1⟩) main_v131) (TRef.of (T := ⟨S8x20000x80, .i1⟩) main_call9_v0) (broadcastInDim S8x20000x80 ![0, 1, 2] bcast_S8x20000x1_S8x20000x80_0_1_2),
    TRef.ternary (TRef.of (T := ⟨S8x20000x80, .i1⟩) main_call9_v0) (TRef.of (T := ⟨S8x20000x80, .f32⟩) main_v130) (TRef.of (T := ⟨S8x20000x80, .f32⟩) main_v126) (TRef.of (T := ⟨S8x20000x80, .f32⟩) main_v132) select ]

/-- Host operations of `main`: instance targets. -/
abbrev lE2 : List (HloOp τ sig (Elt F)) :=
  [ nullary main_cst_18 (constant S_ .f32 0xBF800000#32),
    unary main_cst_18 main_v133 (broadcastInDim S20000x1 ![] bcast_S_S20000x1 : (⟨S_, .f32⟩ : BufTy).Contents (Elt F) → (⟨S20000x1, .f32⟩ : BufTy).Contents (Elt F)),
    unary main_v109 main_v134 ((extractStridedSlice S8x20000x1 ![0, 0, 5] · slices_S8x20000x6_S8x20000x1_0_0_5) : (⟨S8x20000x6, .f32⟩ : BufTy).Contents (Elt F) → (⟨S8x20000x1, .f32⟩ : BufTy).Contents (Elt F)),
    reshape main_v134 main_v135 (rfl : (.f32 : EltTy) = .f32) shapeCasts_S8x20000x1_S8x20000,
    nullary main_cst_19 (constant S_ .f32 0x3F800000#32),
    unary main_cst_19 main_v136 (broadcastInDim S8x20000 ![] bcast_S_S8x20000 : (⟨S_, .f32⟩ : BufTy).Contents (Elt F) → (⟨S8x20000, .f32⟩ : BufTy).Contents (Elt F)),
    binary main_v135 main_v136 main_v137 (cmpf .oeq : (⟨S8x20000, .f32⟩ : BufTy).Contents (Elt F) → (⟨S8x20000, .f32⟩ : BufTy).Contents (Elt F) → (⟨S8x20000, .i1⟩ : BufTy).Contents (Elt F)),
    binary main_v113 main_v137 main_v138 (andi : (⟨S8x20000, .i1⟩ : BufTy).Contents (Elt F) → (⟨S8x20000, .i1⟩ : BufTy).Contents (Elt F) → (⟨S8x20000, .i1⟩ : BufTy).Contents (Elt F)),
    unary main_v138 main_v139 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_20 (constant S_ .f32 0x3F800000#32),
    TRef.unary (TRef.of (T := ⟨S_, .f32⟩) main_cst_20) (TRef.of (T := ⟨S_, .f32⟩) main_call10_v0) id,
    TRef.unary (TRef.of (T := ⟨S_, .f32⟩) main_call10_v0) (TRef.of (T := ⟨S20000x1, .f32⟩) main_call10_v1) (broadcastInDim S20000x1 ![] bcast_S_S20000x1),
    TRef.unary (TRef.of (T := ⟨S20000x1, .f32⟩) main_v133) (TRef.of (T := ⟨S8x20000x1, .f32⟩) main_call10_v2) (broadcastInDim S8x20000x1 ![1, 2] bcast_S20000x1_S8x20000x1_1_2),
    TRef.unary (TRef.of (T := ⟨S20000x1, .f32⟩) main_call10_v1) (TRef.of (T := ⟨S8x20000x1, .f32⟩) main_call10_v3) (broadcastInDim S8x20000x1 ![1, 2] bcast_S20000x1_S8x20000x1_1_2),
    TRef.ternary (TRef.of (T := ⟨S8x20000x1, .i1⟩) main_v139) (TRef.of (T := ⟨S8x20000x1, .f32⟩) main_call10_v3) (TRef.of (T := ⟨S8x20000x1, .f32⟩) main_call10_v2) (TRef.of (T := ⟨S8x20000x1, .f32⟩) main_v140) select,
    unary main_v109 main_v141 ((extractStridedSlice S8x20000x1 ![0, 0, 5] · slices_S8x20000x6_S8x20000x1_0_0_5) : (⟨S8x20000x6, .f32⟩ : BufTy).Contents (Elt F) → (⟨S8x20000x1, .f32⟩ : BufTy).Contents (Elt F)),
    reshape main_v141 main_v142 (rfl : (.f32 : EltTy) = .f32) shapeCasts_S8x20000x1_S8x20000,
    nullary main_cst_21 (constant S_ .f32 0x00000000#32),
    unary main_cst_21 main_v143 (broadcastInDim S8x20000 ![] bcast_S_S8x20000 : (⟨S_, .f32⟩ : BufTy).Contents (Elt F) → (⟨S8x20000, .f32⟩ : BufTy).Contents (Elt F)),
    binary main_v142 main_v143 main_v144 (cmpf .oeq : (⟨S8x20000, .f32⟩ : BufTy).Contents (Elt F) → (⟨S8x20000, .f32⟩ : BufTy).Contents (Elt F) → (⟨S8x20000, .i1⟩ : BufTy).Contents (Elt F)),
    binary main_v113 main_v144 main_v145 (andi : (⟨S8x20000, .i1⟩ : BufTy).Contents (Elt F) → (⟨S8x20000, .i1⟩ : BufTy).Contents (Elt F) → (⟨S8x20000, .i1⟩ : BufTy).Contents (Elt F)),
    unary main_v145 main_v146 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_22 (constant S_ .f32 0x00000000#32),
    TRef.unary (TRef.of (T := ⟨S_, .f32⟩) main_cst_22) (TRef.of (T := ⟨S_, .f32⟩) main_call11_v0) id,
    TRef.unary (TRef.of (T := ⟨S_, .f32⟩) main_call11_v0) (TRef.of (T := ⟨S20000x1, .f32⟩) main_call11_v1) (broadcastInDim S20000x1 ![] bcast_S_S20000x1),
    TRef.unary (TRef.of (T := ⟨S20000x1, .f32⟩) main_call11_v1) (TRef.of (T := ⟨S8x20000x1, .f32⟩) main_call11_v2) (broadcastInDim S8x20000x1 ![1, 2] bcast_S20000x1_S8x20000x1_1_2),
    TRef.ternary (TRef.of (T := ⟨S8x20000x1, .i1⟩) main_v146) (TRef.of (T := ⟨S8x20000x1, .f32⟩) main_call11_v2) (TRef.of (T := ⟨S8x20000x1, .f32⟩) main_v140) (TRef.of (T := ⟨S8x20000x1, .f32⟩) main_v147) select ]

/-- Host operations of `main`: class weights. -/
abbrev lF0 : List (HloOp τ sig (Elt F)) :=
  [ nullary main_cst_23 (constant S_ .f32 0x3F800000#32),
    unary main_cst_23 main_v148 (broadcastInDim S8x20000x80 ![] bcast_S_S8x20000x80 : (⟨S_, .f32⟩ : BufTy).Contents (Elt F) → (⟨S8x20000x80, .f32⟩ : BufTy).Contents (Elt F)),
    binary main_v132 main_v148 main_v149 (cmpf .oeq : (⟨S8x20000x80, .f32⟩ : BufTy).Contents (Elt F) → (⟨S8x20000x80, .f32⟩ : BufTy).Contents (Elt F) → (⟨S8x20000x80, .i1⟩ : BufTy).Contents (Elt F)),
    nullary main_cst_24 (constant S_ .f32 0x3E800000#32),
    nullary main_cst_25 (constant S_ .f32 0x3F400000#32),
    TRef.unary (TRef.of (T := ⟨S_, .f32⟩) main_cst_24) (TRef.of (T := ⟨S20000x80, .f32⟩) main_call12_v0) (broadcastInDim S20000x80 ![] bcast_S_S20000x80),
    TRef.unary (TRef.of (T := ⟨S_, .f32⟩) main_cst_25) (TRef.of (T := ⟨S20000x80, .f32⟩) main_call12_v1) (broadcastInDim S20000x80 ![] bcast_S_S20000x80),
    TRef.unary (TRef.of (T := ⟨S20000x80, .f32⟩) main_call12_v1) (TRef.of (T := ⟨S8x20000x80, .f32⟩) main_call12_v2) (broadcastInDim S8x20000x80 ![1, 2] bcast_S20000x80_S8x20000x80_1_2),
    TRef.unary (TRef.of (T := ⟨S20000x80, .f32⟩) main_call12_v0) (TRef.of (T := ⟨S8x20000x80, .f32⟩) main_call12_v3) (broadcastInDim S8x20000x80 ![1, 2] bcast_S20000x80_S8x20000x80_1_2),
    TRef.ternary (TRef.of (T := ⟨S8x20000x80, .i1⟩) main_v149) (TRef.of (T := ⟨S8x20000x80, .f32⟩) main_call12_v3) (TRef.of (T := ⟨S8x20000x80, .f32⟩) main_call12_v2) (TRef.of (T := ⟨S8x20000x80, .f32⟩) main_v150) select,
    nullary main_cst_26 (constant S_ .f32 0x3F800000#32) ]

/-- Host operations of `main`: focal weights and cross entropies. -/
abbrev lF1 : List (HloOp τ sig (Elt F)) :=
  [ unary main_cst_26 main_v151 (broadcastInDim S8x20000x1 ![] bcast_S_S8x20000x1 : (⟨S_, .f32⟩ : BufTy).Contents (Elt F) → (⟨S8x20000x1, .f32⟩ : BufTy).Contents (Elt F)),
    binary main_v147 main_v151 main_v152 (cmpf .oeq : (⟨S8x20000x1, .f32⟩ : BufTy).Contents (Elt F) → (⟨S8x20000x1, .f32⟩ : BufTy).Contents (Elt F) → (⟨S8x20000x1, .i1⟩ : BufTy).Contents (Elt F)),
    nullary main_cst_27 (constant S_ .f32 0x3F000000#32),
    nullary main_cst_28 (constant S_ .f32 0x3F000000#32),
    TRef.unary (TRef.of (T := ⟨S_, .f32⟩) main_cst_27) (TRef.of (T := ⟨S20000x1, .f32⟩) main_call13_v0) (broadcastInDim S20000x1 ![] bcast_S_S20000x1),
    TRef.unary (TRef.of (T := ⟨S_, .f32⟩) main_cst_28) (TRef.of (T := ⟨S20000x1, .f32⟩) main_call13_v1) (broadcastInDim S20000x1 ![] bcast_S_S20000x1),
    TRef.unary (TRef.of (T := ⟨S20000x1, .f32⟩) main_call13_v1) (TRef.of (T := ⟨S8x20000x1, .f32⟩) main_call13_v2) (broadcastInDim S8x20000x1 ![1, 2] bcast_S20000x1_S8x20000x1_1_2),
    TRef.unary (TRef.of (T := ⟨S20000x1, .f32⟩) main_call13_v0) (TRef.of (T := ⟨S8x20000x1, .f32⟩) main_call13_v3) (broadcastInDim S8x20000x1 ![1, 2] bcast_S20000x1_S8x20000x1_1_2),
    TRef.ternary (TRef.of (T := ⟨S8x20000x1, .i1⟩) main_v152) (TRef.of (T := ⟨S8x20000x1, .f32⟩) main_call13_v3) (TRef.of (T := ⟨S8x20000x1, .f32⟩) main_call13_v2) (TRef.of (T := ⟨S8x20000x1, .f32⟩) main_v153) select,
    nullary main_cst_29 (constant S_ .f32 0x3F800000#32),
    unary main_cst_29 main_v154 (broadcastInDim S8x20000x80 ![] bcast_S_S8x20000x80 : (⟨S_, .f32⟩ : BufTy).Contents (Elt F) → (⟨S8x20000x80, .f32⟩ : BufTy).Contents (Elt F)),
    binary main_v132 main_v154 main_v155 (cmpf .oeq : (⟨S8x20000x80, .f32⟩ : BufTy).Contents (Elt F) → (⟨S8x20000x80, .f32⟩ : BufTy).Contents (Elt F) → (⟨S8x20000x80, .i1⟩ : BufTy).Contents (Elt F)),
    nullary main_cst_30 (constant S_ .f32 0x3F800000#32),
    unary main_cst_30 main_v156 (broadcastInDim S8x20000x80 ![] bcast_S_S8x20000x80 : (⟨S_, .f32⟩ : BufTy).Contents (Elt F) → (⟨S8x20000x80, .f32⟩ : BufTy).Contents (Elt F)),
    binary main_v156 main_v22 main_v157 (subf : (⟨S8x20000x80, .f32⟩ : BufTy).Contents (Elt F) → (⟨S8x20000x80, .f32⟩ : BufTy).Contents (Elt F) → (⟨S8x20000x80, .f32⟩ : BufTy).Contents (Elt F)),
    TRef.ternary (TRef.of (T := ⟨S8x20000x80, .i1⟩) main_v155) (TRef.of (T := ⟨S8x20000x80, .f32⟩) main_v157) (TRef.of (T := ⟨S8x20000x80, .f32⟩) main_v22) (TRef.of (T := ⟨S8x20000x80, .f32⟩) main_v158) select,
    nullary main_cst_31 (constant S_ .f32 0x40000000#32),
    unary main_cst_31 main_v159 (broadcastInDim S8x20000x80 ![] bcast_S_S8x20000x80 : (⟨S_, .f32⟩ : BufTy).Contents (Elt F) → (⟨S8x20000x80, .f32⟩ : BufTy).Contents (Elt F)),
    binary main_v158 main_v159 main_v160 (Host.powf : (⟨S8x20000x80, .f32⟩ : BufTy).Contents (Elt F) → (⟨S8x20000x80, .f32⟩ : BufTy).Contents (Elt F) → (⟨S8x20000x80, .f32⟩ : BufTy).Contents (Elt F)),
    unary main_v150 main_v161 (id : (⟨S8x20000x80, .f32⟩ : BufTy).Contents (Elt F) → (⟨S8x20000x80, .f32⟩ : BufTy).Contents (Elt F)),
    binary main_v161 main_v160 main_v162 (mulf : (⟨S8x20000x80, .f32⟩ : BufTy).Contents (Elt F) → (⟨S8x20000x80, .f32⟩ : BufTy).Contents (Elt F) → (⟨S8x20000x80, .f32⟩ : BufTy).Contents (Elt F)),
    nullary main_cst_32 (constant S_ .f32 0x3F800000#32),
    unary main_cst_32 main_v163 (broadcastInDim S8x20000x1 ![] bcast_S_S8x20000x1 : (⟨S_, .f32⟩ : BufTy).Contents (Elt F) → (⟨S8x20000x1, .f32⟩ : BufTy).Contents (Elt F)),
    binary main_v147 main_v163 main_v164 (cmpf .oeq : (⟨S8x20000x1, .f32⟩ : BufTy).Contents (Elt F) → (⟨S8x20000x1, .f32⟩ : BufTy).Contents (Elt F) → (⟨S8x20000x1, .i1⟩ : BufTy).Contents (Elt F)),
    nullary main_cst_33 (constant S_ .f32 0x3F800000#32),
    unary main_cst_33 main_v165 (broadcastInDim S8x20000x1 ![] bcast_S_S8x20000x1 : (⟨S_, .f32⟩ : BufTy).Contents (Elt F) → (⟨S8x20000x1, .f32⟩ : BufTy).Contents (Elt F)),
    binary main_v165 main_v21 main_v166 (subf : (⟨S8x20000x1, .f32⟩ : BufTy).Contents (Elt F) → (⟨S8x20000x1, .f32⟩ : BufTy).Contents (Elt F) → (⟨S8x20000x1, .f32⟩ : BufTy).Contents (Elt F)),
    TRef.ternary (TRef.of (T := ⟨S8x20000x1, .i1⟩) main_v164) (TRef.of (T := ⟨S8x20000x1, .f32⟩) main_v166) (TRef.of (T := ⟨S8x20000x1, .f32⟩) main_v21) (TRef.of (T := ⟨S8x20000x1, .f32⟩) main_v167) select,
    nullary main_cst_34 (constant S_ .f32 0x40000000#32),
    unary main_cst_34 main_v168 (broadcastInDim S8x20000x1 ![] bcast_S_S8x20000x1 : (⟨S_, .f32⟩ : BufTy).Contents (Elt F) → (⟨S8x20000x1, .f32⟩ : BufTy).Contents (Elt F)),
    binary main_v167 main_v168 main_v169 (Host.powf : (⟨S8x20000x1, .f32⟩ : BufTy).Contents (Elt F) → (⟨S8x20000x1, .f32⟩ : BufTy).Contents (Elt F) → (⟨S8x20000x1, .f32⟩ : BufTy).Contents (Elt F)),
    unary main_v153 main_v170 (id : (⟨S8x20000x1, .f32⟩ : BufTy).Contents (Elt F) → (⟨S8x20000x1, .f32⟩ : BufTy).Contents (Elt F)),
    binary main_v170 main_v169 main_v171 (mulf : (⟨S8x20000x1, .f32⟩ : BufTy).Contents (Elt F) → (⟨S8x20000x1, .f32⟩ : BufTy).Contents (Elt F) → (⟨S8x20000x1, .f32⟩ : BufTy).Contents (Elt F)),
    unary main_v22 main_v172 (Host.log : (⟨S8x20000x80, .f32⟩ : BufTy).Contents (Elt F) → (⟨S8x20000x80, .f32⟩ : BufTy).Contents (Elt F)),
    binary main_v132 main_v172 main_v173 (mulf : (⟨S8x20000x80, .f32⟩ : BufTy).Contents (Elt F) → (⟨S8x20000x80, .f32⟩ : BufTy).Contents (Elt F) → (⟨S8x20000x80, .f32⟩ : BufTy).Contents (Elt F)),
    nullary main_cst_35 (constant S_ .f32 0x3F800000#32),
    unary main_cst_35 main_v174 (broadcastInDim S8x20000x80 ![] bcast_S_S8x20000x80 : (⟨S_, .f32⟩ : BufTy).Contents (Elt F) → (⟨S8x20000x80, .f32⟩ : BufTy).Contents (Elt F)),
    binary main_v174 main_v132 main_v175 (subf : (⟨S8x20000x80, .f32⟩ : BufTy).Contents (Elt F) → (⟨S8x20000x80, .f32⟩ : BufTy).Contents (Elt F) → (⟨S8x20000x80, .f32⟩ : BufTy).Contents (Elt F)),
    nullary main_cst_36 (constant S_ .f32 0x3F800000#32),
    unary main_cst_36 main_v176 (broadcastInDim S8x20000x80 ![] bcast_S_S8x20000x80 : (⟨S_, .f32⟩ : BufTy).Contents (Elt F) → (⟨S8x20000x80, .f32⟩ : BufTy).Contents (Elt F)),
    binary main_v176 main_v22 main_v177 (subf : (⟨S8x20000x80, .f32⟩ : BufTy).Contents (Elt F) → (⟨S8x20000x80, .f32⟩ : BufTy).Contents (Elt F) → (⟨S8x20000x80, .f32⟩ : BufTy).Contents (Elt F)),
    unary main_v177 main_v178 (Host.log : (⟨S8x20000x80, .f32⟩ : BufTy).Contents (Elt F) → (⟨S8x20000x80, .f32⟩ : BufTy).Contents (Elt F)),
    binary main_v175 main_v178 main_v179 (mulf : (⟨S8x20000x80, .f32⟩ : BufTy).Contents (Elt F) → (⟨S8x20000x80, .f32⟩ : BufTy).Contents (Elt F) → (⟨S8x20000x80, .f32⟩ : BufTy).Contents (Elt F)),
    binary main_v173 main_v179 main_v180 (addf : (⟨S8x20000x80, .f32⟩ : BufTy).Contents (Elt F) → (⟨S8x20000x80, .f32⟩ : BufTy).Contents (Elt F) → (⟨S8x20000x80, .f32⟩ : BufTy).Contents (Elt F)),
    unary main_v180 main_v181 (Host.negf : (⟨S8x20000x80, .f32⟩ : BufTy).Contents (Elt F) → (⟨S8x20000x80, .f32⟩ : BufTy).Contents (Elt F)),
    unary main_v21 main_v182 (Host.log : (⟨S8x20000x1, .f32⟩ : BufTy).Contents (Elt F) → (⟨S8x20000x1, .f32⟩ : BufTy).Contents (Elt F)),
    binary main_v147 main_v182 main_v183 (mulf : (⟨S8x20000x1, .f32⟩ : BufTy).Contents (Elt F) → (⟨S8x20000x1, .f32⟩ : BufTy).Contents (Elt F) → (⟨S8x20000x1, .f32⟩ : BufTy).Contents (Elt F)),
    nullary main_cst_37 (constant S_ .f32 0x3F800000#32),
    unary main_cst_37 main_v184 (broadcastInDim S8x20000x1 ![] bcast_S_S8x20000x1 : (⟨S_, .f32⟩ : BufTy).Contents (Elt F) → (⟨S8x20000x1, .f32⟩ : BufTy).Contents (Elt F)),
    binary main_v184 main_v147 main_v185 (subf : (⟨S8x20000x1, .f32⟩ : BufTy).Contents (Elt F) → (⟨S8x20000x1, .f32⟩ : BufTy).Contents (Elt F) → (⟨S8x20000x1, .f32⟩ : BufTy).Contents (Elt F)),
    nullary main_cst_38 (constant S_ .f32 0x3F800000#32),
    unary main_cst_38 main_v186 (broadcastInDim S8x20000x1 ![] bcast_S_S8x20000x1 : (⟨S_, .f32⟩ : BufTy).Contents (Elt F) → (⟨S8x20000x1, .f32⟩ : BufTy).Contents (Elt F)),
    binary main_v186 main_v21 main_v187 (subf : (⟨S8x20000x1, .f32⟩ : BufTy).Contents (Elt F) → (⟨S8x20000x1, .f32⟩ : BufTy).Contents (Elt F) → (⟨S8x20000x1, .f32⟩ : BufTy).Contents (Elt F)),
    unary main_v187 main_v188 (Host.log : (⟨S8x20000x1, .f32⟩ : BufTy).Contents (Elt F) → (⟨S8x20000x1, .f32⟩ : BufTy).Contents (Elt F)),
    binary main_v185 main_v188 main_v189 (mulf : (⟨S8x20000x1, .f32⟩ : BufTy).Contents (Elt F) → (⟨S8x20000x1, .f32⟩ : BufTy).Contents (Elt F) → (⟨S8x20000x1, .f32⟩ : BufTy).Contents (Elt F)),
    binary main_v183 main_v189 main_v190 (addf : (⟨S8x20000x1, .f32⟩ : BufTy).Contents (Elt F) → (⟨S8x20000x1, .f32⟩ : BufTy).Contents (Elt F) → (⟨S8x20000x1, .f32⟩ : BufTy).Contents (Elt F)),
    unary main_v190 main_v191 (Host.negf : (⟨S8x20000x1, .f32⟩ : BufTy).Contents (Elt F) → (⟨S8x20000x1, .f32⟩ : BufTy).Contents (Elt F)),
    nullary main_cst_39 (constant S_ .f32 0xBF800000#32),
    unary main_cst_39 main_v192 (broadcastInDim S8x20000x80 ![] bcast_S_S8x20000x80 : (⟨S_, .f32⟩ : BufTy).Contents (Elt F) → (⟨S8x20000x80, .f32⟩ : BufTy).Contents (Elt F)),
    binary main_v132 main_v192 main_v193 (cmpf .une : (⟨S8x20000x80, .f32⟩ : BufTy).Contents (Elt F) → (⟨S8x20000x80, .f32⟩ : BufTy).Contents (Elt F) → (⟨S8x20000x80, .i1⟩ : BufTy).Contents (Elt F)),
    binary main_v162 main_v181 main_v194 (mulf : (⟨S8x20000x80, .f32⟩ : BufTy).Contents (Elt F) → (⟨S8x20000x80, .f32⟩ : BufTy).Contents (Elt F) → (⟨S8x20000x80, .f32⟩ : BufTy).Contents (Elt F)),
    nullary main_cst_40 (constant S_ .f32 0x00000000#32),
    TRef.unary (TRef.of (T := ⟨S_, .f32⟩) main_cst_40) (TRef.of (T := ⟨S_, .f32⟩) main_call16_v0) id,
    TRef.unary (TRef.of (T := ⟨S_, .f32⟩) main_call16_v0) (TRef.of (T := ⟨S20000x80, .f32⟩) main_call16_v1) (broadcastInDim S20000x80 ![] bcast_S_S20000x80),
    TRef.unary (TRef.of (T := ⟨S20000x80, .f32⟩) main_call16_v1) (TRef.of (T := ⟨S8x20000x80, .f32⟩) main_call16_v2) (broadcastInDim S8x20000x80 ![1, 2] bcast_S20000x80_S8x20000x80_1_2),
    TRef.ternary (TRef.of (T := ⟨S8x20000x80, .i1⟩) main_v193) (TRef.of (T := ⟨S8x20000x80, .f32⟩) main_v194) (TRef.of (T := ⟨S8x20000x80, .f32⟩) main_call16_v2) (TRef.of (T := ⟨S8x20000x80, .f32⟩) main_v195) select,
    nullary main_cst_41 (constant S_ .f32 0xBF800000#32) ]

/-- Host operations of `main`: masked class and instance losses. -/
abbrev lF2 : List (HloOp τ sig (Elt F)) :=
  [ unary main_cst_41 main_v196 (broadcastInDim S8x20000x1 ![] bcast_S_S8x20000x1 : (⟨S_, .f32⟩ : BufTy).Contents (Elt F) → (⟨S8x20000x1, .f32⟩ : BufTy).Contents (Elt F)),
    binary main_v147 main_v196 main_v197 (cmpf .une : (⟨S8x20000x1, .f32⟩ : BufTy).Contents (Elt F) → (⟨S8x20000x1, .f32⟩ : BufTy).Contents (Elt F) → (⟨S8x20000x1, .i1⟩ : BufTy).Contents (Elt F)),
    binary main_v171 main_v191 main_v198 (mulf : (⟨S8x20000x1, .f32⟩ : BufTy).Contents (Elt F) → (⟨S8x20000x1, .f32⟩ : BufTy).Contents (Elt F) → (⟨S8x20000x1, .f32⟩ : BufTy).Contents (Elt F)),
    nullary main_cst_42 (constant S_ .f32 0x00000000#32),
    TRef.unary (TRef.of (T := ⟨S_, .f32⟩) main_cst_42) (TRef.of (T := ⟨S_, .f32⟩) main_call17_v0) id,
    TRef.unary (TRef.of (T := ⟨S_, .f32⟩) main_call17_v0) (TRef.of (T := ⟨S20000x1, .f32⟩) main_call17_v1) (broadcastInDim S20000x1 ![] bcast_S_S20000x1),
    TRef.unary (TRef.of (T := ⟨S20000x1, .f32⟩) main_call17_v1) (TRef.of (T := ⟨S8x20000x1, .f32⟩) main_call17_v2) (broadcastInDim S8x20000x1 ![1, 2] bcast_S20000x1_S8x20000x1_1_2),
    TRef.ternary (TRef.of (T := ⟨S8x20000x1, .i1⟩) main_v197) (TRef.of (T := ⟨S8x20000x1, .f32⟩) main_v198) (TRef.of (T := ⟨S8x20000x1, .f32⟩) main_call17_v2) (TRef.of (T := ⟨S8x20000x1, .f32⟩) main_v199) select ]

/-- Host operations of `main`: the class and instance sums over their counts. -/
abbrev lG : List (HloOp τ sig (Elt F)) :=
  [ nullary main_cst_43 (constant S_ .f32 0x00000000#32),
    binary main_v195 main_cst_43 main_v200 ((fun x v => Host.reduceAdd x v reducesTo_S8x20000x80_S8_d1_2 h_S_) : (⟨S8x20000x80, .f32⟩ : BufTy).Contents (Elt F) → (⟨S_, .f32⟩ : BufTy).Contents (Elt F) → (⟨S8, .f32⟩ : BufTy).Contents (Elt F)),
    nullary main_cst_44 (constant S_ .f32 0x3F800000#32),
    unary main_cst_44 main_v201 (broadcastInDim S8 ![] bcast_S_S8 : (⟨S_, .f32⟩ : BufTy).Contents (Elt F) → (⟨S8, .f32⟩ : BufTy).Contents (Elt F)),
    binary main_v116 main_v201 main_v202 (maximumf : (⟨S8, .f32⟩ : BufTy).Contents (Elt F) → (⟨S8, .f32⟩ : BufTy).Contents (Elt F) → (⟨S8, .f32⟩ : BufTy).Contents (Elt F)),
    binary main_v200 main_v202 main_v203 (Host.divf : (⟨S8, .f32⟩ : BufTy).Contents (Elt F) → (⟨S8, .f32⟩ : BufTy).Contents (Elt F) → (⟨S8, .f32⟩ : BufTy).Contents (Elt F)),
    nullary main_cst_45 (constant S_ .f32 0x00000000#32),
    binary main_v199 main_cst_45 main_v204 ((fun x v => Host.reduceAdd x v reducesTo_S8x20000x1_S8_d1_2 h_S_) : (⟨S8x20000x1, .f32⟩ : BufTy).Contents (Elt F) → (⟨S_, .f32⟩ : BufTy).Contents (Elt F) → (⟨S8, .f32⟩ : BufTy).Contents (Elt F)),
    nullary main_cst_46 (constant S_ .f32 0x3F800000#32),
    unary main_cst_46 main_v205 (broadcastInDim S8 ![] bcast_S_S8 : (⟨S_, .f32⟩ : BufTy).Contents (Elt F) → (⟨S8, .f32⟩ : BufTy).Contents (Elt F)),
    binary main_v119 main_v205 main_v206 (maximumf : (⟨S8, .f32⟩ : BufTy).Contents (Elt F) → (⟨S8, .f32⟩ : BufTy).Contents (Elt F) → (⟨S8, .f32⟩ : BufTy).Contents (Elt F)),
    binary main_v204 main_v206 main_v207 (Host.divf : (⟨S8, .f32⟩ : BufTy).Contents (Elt F) → (⟨S8, .f32⟩ : BufTy).Contents (Elt F) → (⟨S8, .f32⟩ : BufTy).Contents (Elt F)) ]

/-- Host operations of `main`: regression targets, begun. -/
abbrev lH0 : List (HloOp τ sig (Elt F)) :=
  [ unary main_v109 main_v208 ((extractStridedSlice S8x20000x1 ![0, 0, 2] · slices_S8x20000x6_S8x20000x1_0_0_2) : (⟨S8x20000x6, .f32⟩ : BufTy).Contents (Elt F) → (⟨S8x20000x1, .f32⟩ : BufTy).Contents (Elt F)),
    reshape main_v208 main_v209 (rfl : (.f32 : EltTy) = .f32) shapeCasts_S8x20000x1_S8x20000,
    unary main_v109 main_v210 ((extractStridedSlice S8x20000x1 ![0, 0, 0] · slices_S8x20000x6_S8x20000x1_0_0_0) : (⟨S8x20000x6, .f32⟩ : BufTy).Contents (Elt F) → (⟨S8x20000x1, .f32⟩ : BufTy).Contents (Elt F)),
    reshape main_v210 main_v211 (rfl : (.f32 : EltTy) = .f32) shapeCasts_S8x20000x1_S8x20000,
    binary main_v209 main_v211 main_v212 (subf : (⟨S8x20000, .f32⟩ : BufTy).Contents (Elt F) → (⟨S8x20000, .f32⟩ : BufTy).Contents (Elt F) → (⟨S8x20000, .f32⟩ : BufTy).Contents (Elt F)),
    unary main_v109 main_v213 ((extractStridedSlice S8x20000x1 ![0, 0, 3] · slices_S8x20000x6_S8x20000x1_0_0_3) : (⟨S8x20000x6, .f32⟩ : BufTy).Contents (Elt F) → (⟨S8x20000x1, .f32⟩ : BufTy).Contents (Elt F)),
    reshape main_v213 main_v214 (rfl : (.f32 : EltTy) = .f32) shapeCasts_S8x20000x1_S8x20000,
    unary main_v109 main_v215 ((extractStridedSlice S8x20000x1 ![0, 0, 1] · slices_S8x20000x6_S8x20000x1_0_0_1) : (⟨S8x20000x6, .f32⟩ : BufTy).Contents (Elt F) → (⟨S8x20000x1, .f32⟩ : BufTy).Contents (Elt F)),
    reshape main_v215 main_v216 (rfl : (.f32 : EltTy) = .f32) shapeCasts_S8x20000x1_S8x20000,
    binary main_v214 main_v216 main_v217 (subf : (⟨S8x20000, .f32⟩ : BufTy).Contents (Elt F) → (⟨S8x20000, .f32⟩ : BufTy).Contents (Elt F) → (⟨S8x20000, .f32⟩ : BufTy).Contents (Elt F)),
    unary main_v109 main_v218 ((extractStridedSlice S8x20000x1 ![0, 0, 0] · slices_S8x20000x6_S8x20000x1_0_0_0) : (⟨S8x20000x6, .f32⟩ : BufTy).Contents (Elt F) → (⟨S8x20000x1, .f32⟩ : BufTy).Contents (Elt F)),
    reshape main_v218 main_v219 (rfl : (.f32 : EltTy) = .f32) shapeCasts_S8x20000x1_S8x20000,
    nullary main_cst_47 (constant S_ .f32 0x3F000000#32),
    unary main_cst_47 main_v220 (broadcastInDim S8x20000 ![] bcast_S_S8x20000 : (⟨S_, .f32⟩ : BufTy).Contents (Elt F) → (⟨S8x20000, .f32⟩ : BufTy).Contents (Elt F)),
    binary main_v220 main_v212 main_v221 (mulf : (⟨S8x20000, .f32⟩ : BufTy).Contents (Elt F) → (⟨S8x20000, .f32⟩ : BufTy).Contents (Elt F) → (⟨S8x20000, .f32⟩ : BufTy).Contents (Elt F)),
    binary main_v219 main_v221 main_v222 (addf : (⟨S8x20000, .f32⟩ : BufTy).Contents (Elt F) → (⟨S8x20000, .f32⟩ : BufTy).Contents (Elt F) → (⟨S8x20000, .f32⟩ : BufTy).Contents (Elt F)),
    unary main_v109 main_v223 ((extractStridedSlice S8x20000x1 ![0, 0, 1] · slices_S8x20000x6_S8x20000x1_0_0_1) : (⟨S8x20000x6, .f32⟩ : BufTy).Contents (Elt F) → (⟨S8x20000x1, .f32⟩ : BufTy).Contents (Elt F)),
    reshape main_v223 main_v224 (rfl : (.f32 : EltTy) = .f32) shapeCasts_S8x20000x1_S8x20000,
    nullary main_cst_48 (constant S_ .f32 0x3F000000#32),
    unary main_cst_48 main_v225 (broadcastInDim S8x20000 ![] bcast_S_S8x20000 : (⟨S_, .f32⟩ : BufTy).Contents (Elt F) → (⟨S8x20000, .f32⟩ : BufTy).Contents (Elt F)),
    binary main_v225 main_v217 main_v226 (mulf : (⟨S8x20000, .f32⟩ : BufTy).Contents (Elt F) → (⟨S8x20000, .f32⟩ : BufTy).Contents (Elt F) → (⟨S8x20000, .f32⟩ : BufTy).Contents (Elt F)),
    binary main_v224 main_v226 main_v227 (addf : (⟨S8x20000, .f32⟩ : BufTy).Contents (Elt F) → (⟨S8x20000, .f32⟩ : BufTy).Contents (Elt F) → (⟨S8x20000, .f32⟩ : BufTy).Contents (Elt F)),
    nullary main_cst_49 (constant S_ .f32 0x3F800000#32),
    TRef.unary (TRef.of (T := ⟨S_, .f32⟩) main_cst_49) (TRef.of (T := ⟨S_, .f32⟩) main_call18_v0) id,
    TRef.unary (TRef.of (T := ⟨S_, .f32⟩) main_call18_v0) (TRef.of (T := ⟨S8x20000, .f32⟩) main_call18_v1) (broadcastInDim S8x20000 ![] bcast_S_S8x20000),
    TRef.binary (TRef.of (T := ⟨S8x20000, .f32⟩) main_call18_v1) (TRef.of (T := ⟨S8x20000, .f32⟩) main_v212) (TRef.of (T := ⟨S8x20000, .f32⟩) main_v228) maximumf,
    nullary main_cst_50 (constant S_ .f32 0x3F800000#32),
    TRef.unary (TRef.of (T := ⟨S_, .f32⟩) main_cst_50) (TRef.of (T := ⟨S_, .f32⟩) main_call19_v0) id,
    TRef.unary (TRef.of (T := ⟨S_, .f32⟩) main_call19_v0) (TRef.of (T := ⟨S8x20000, .f32⟩) main_call19_v1) (broadcastInDim S8x20000 ![] bcast_S_S8x20000),
    TRef.binary (TRef.of (T := ⟨S8x20000, .f32⟩) main_call19_v1) (TRef.of (T := ⟨S8x20000, .f32⟩) main_v217) (TRef.of (T := ⟨S8x20000, .f32⟩) main_v229) maximumf,
    unary main_v15 main_v230 (broadcastInDim S1x20000 ![1] bcast_S20000_S1x20000_1 : (⟨S20000, .f32⟩ : BufTy).Contents (Elt F) → (⟨S1x20000, .f32⟩ : BufTy).Contents (Elt F)),
    unary main_v230 main_v231 (broadcastInDim S8x20000 ![0, 1] bcast_S1x20000_S8x20000_0_1 : (⟨S1x20000, .f32⟩ : BufTy).Contents (Elt F) → (⟨S8x20000, .f32⟩ : BufTy).Contents (Elt F)),
    binary main_v222 main_v231 main_v232 (subf : (⟨S8x20000, .f32⟩ : BufTy).Contents (Elt F) → (⟨S8x20000, .f32⟩ : BufTy).Contents (Elt F) → (⟨S8x20000, .f32⟩ : BufTy).Contents (Elt F)),
    unary main_v5 main_v233 (broadcastInDim S1x20000 ![1] bcast_S20000_S1x20000_1 : (⟨S20000, .f32⟩ : BufTy).Contents (Elt F) → (⟨S1x20000, .f32⟩ : BufTy).Contents (Elt F)),
    unary main_v233 main_v234 (broadcastInDim S8x20000 ![0, 1] bcast_S1x20000_S8x20000_0_1 : (⟨S1x20000, .f32⟩ : BufTy).Contents (Elt F) → (⟨S8x20000, .f32⟩ : BufTy).Contents (Elt F)),
    binary main_v232 main_v234 main_v235 (Host.divf : (⟨S8x20000, .f32⟩ : BufTy).Contents (Elt F) → (⟨S8x20000, .f32⟩ : BufTy).Contents (Elt F) → (⟨S8x20000, .f32⟩ : BufTy).Contents (Elt F)),
    unary main_v20 main_v236 (broadcastInDim S1x20000 ![1] bcast_S20000_S1x20000_1 : (⟨S20000, .f32⟩ : BufTy).Contents (Elt F) → (⟨S1x20000, .f32⟩ : BufTy).Contents (Elt F)),
    unary main_v236 main_v237 (broadcastInDim S8x20000 ![0, 1] bcast_S1x20000_S8x20000_0_1 : (⟨S1x20000, .f32⟩ : BufTy).Contents (Elt F) → (⟨S8x20000, .f32⟩ : BufTy).Contents (Elt F)),
    binary main_v227 main_v237 main_v238 (subf : (⟨S8x20000, .f32⟩ : BufTy).Contents (Elt F) → (⟨S8x20000, .f32⟩ : BufTy).Contents (Elt F) → (⟨S8x20000, .f32⟩ : BufTy).Contents (Elt F)),
    unary main_v10 main_v239 (broadcastInDim S1x20000 ![1] bcast_S20000_S1x20000_1 : (⟨S20000, .f32⟩ : BufTy).Contents (Elt F) → (⟨S1x20000, .f32⟩ : BufTy).Contents (Elt F)),
    unary main_v239 main_v240 (broadcastInDim S8x20000 ![0, 1] bcast_S1x20000_S8x20000_0_1 : (⟨S1x20000, .f32⟩ : BufTy).Contents (Elt F) → (⟨S8x20000, .f32⟩ : BufTy).Contents (Elt F)),
    binary main_v238 main_v240 main_v241 (Host.divf : (⟨S8x20000, .f32⟩ : BufTy).Contents (Elt F) → (⟨S8x20000, .f32⟩ : BufTy).Contents (Elt F) → (⟨S8x20000, .f32⟩ : BufTy).Contents (Elt F)),
    unary main_v5 main_v242 (broadcastInDim S1x20000 ![1] bcast_S20000_S1x20000_1 : (⟨S20000, .f32⟩ : BufTy).Contents (Elt F) → (⟨S1x20000, .f32⟩ : BufTy).Contents (Elt F)),
    unary main_v242 main_v243 (broadcastInDim S8x20000 ![0, 1] bcast_S1x20000_S8x20000_0_1 : (⟨S1x20000, .f32⟩ : BufTy).Contents (Elt F) → (⟨S8x20000, .f32⟩ : BufTy).Contents (Elt F)),
    binary main_v228 main_v243 main_v244 (Host.divf : (⟨S8x20000, .f32⟩ : BufTy).Contents (Elt F) → (⟨S8x20000, .f32⟩ : BufTy).Contents (Elt F) → (⟨S8x20000, .f32⟩ : BufTy).Contents (Elt F)),
    unary main_v244 main_v245 (Host.log : (⟨S8x20000, .f32⟩ : BufTy).Contents (Elt F) → (⟨S8x20000, .f32⟩ : BufTy).Contents (Elt F)),
    unary main_v10 main_v246 (broadcastInDim S1x20000 ![1] bcast_S20000_S1x20000_1 : (⟨S20000, .f32⟩ : BufTy).Contents (Elt F) → (⟨S1x20000, .f32⟩ : BufTy).Contents (Elt F)) ]

/-- Host operations of `main`: distance of the regression from its target. -/
abbrev lH1 : List (HloOp τ sig (Elt F)) :=
  [ unary main_v246 main_v247 (broadcastInDim S8x20000 ![0, 1] bcast_S1x20000_S8x20000_0_1 : (⟨S1x20000, .f32⟩ : BufTy).Contents (Elt F) → (⟨S8x20000, .f32⟩ : BufTy).Contents (Elt F)),
    binary main_v229 main_v247 main_v248 (Host.divf : (⟨S8x20000, .f32⟩ : BufTy).Contents (Elt F) → (⟨S8x20000, .f32⟩ : BufTy).Contents (Elt F) → (⟨S8x20000, .f32⟩ : BufTy).Contents (Elt F)),
    unary main_v248 main_v249 (Host.log : (⟨S8x20000, .f32⟩ : BufTy).Contents (Elt F) → (⟨S8x20000, .f32⟩ : BufTy).Contents (Elt F)),
    unary main_v241 main_v250 (broadcastInDim S8x20000x1 ![0, 1] bcast_S8x20000_S8x20000x1_0_1 : (⟨S8x20000, .f32⟩ : BufTy).Contents (Elt F) → (⟨S8x20000x1, .f32⟩ : BufTy).Contents (Elt F)),
    unary main_v235 main_v251 (broadcastInDim S8x20000x1 ![0, 1] bcast_S8x20000_S8x20000x1_0_1 : (⟨S8x20000, .f32⟩ : BufTy).Contents (Elt F) → (⟨S8x20000x1, .f32⟩ : BufTy).Contents (Elt F)),
    unary main_v249 main_v252 (broadcastInDim S8x20000x1 ![0, 1] bcast_S8x20000_S8x20000x1_0_1 : (⟨S8x20000, .f32⟩ : BufTy).Contents (Elt F) → (⟨S8x20000x1, .f32⟩ : BufTy).Contents (Elt F)),
    unary main_v245 main_v253 (broadcastInDim S8x20000x1 ![0, 1] bcast_S8x20000_S8x20000x1_0_1 : (⟨S8x20000, .f32⟩ : BufTy).Contents (Elt F) → (⟨S8x20000x1, .f32⟩ : BufTy).Contents (Elt F)),
    nary ![main_v250, main_v251, main_v252, main_v253] main_v254 (fun u => sideBySide (F := F) (u 0) (u 1) (u 2) (u 3)),
    binary main_v254 main_arg2 main_v255 (subf : (⟨S8x20000x4, .f32⟩ : BufTy).Contents (Elt F) → (⟨S8x20000x4, .f32⟩ : BufTy).Contents (Elt F) → (⟨S8x20000x4, .f32⟩ : BufTy).Contents (Elt F)),
    unary main_v255 main_v256 (Host.absf : (⟨S8x20000x4, .f32⟩ : BufTy).Contents (Elt F) → (⟨S8x20000x4, .f32⟩ : BufTy).Contents (Elt F)) ]

/-- Host operations of `main`: smooth distance over the positive anchors. -/
abbrev lI : List (HloOp τ sig (Elt F)) :=
  [ nullary main_cst_51 (constant S_ .f32 0x3DE38E39#32),
    unary main_cst_51 main_v257 (broadcastInDim S8x20000x4 ![] bcast_S_S8x20000x4 : (⟨S_, .f32⟩ : BufTy).Contents (Elt F) → (⟨S8x20000x4, .f32⟩ : BufTy).Contents (Elt F)),
    binary main_v256 main_v257 main_v258 (cmpf .ole : (⟨S8x20000x4, .f32⟩ : BufTy).Contents (Elt F) → (⟨S8x20000x4, .f32⟩ : BufTy).Contents (Elt F) → (⟨S8x20000x4, .i1⟩ : BufTy).Contents (Elt F)),
    binary main_v256 main_v256 main_v259 (mulf : (⟨S8x20000x4, .f32⟩ : BufTy).Contents (Elt F) → (⟨S8x20000x4, .f32⟩ : BufTy).Contents (Elt F) → (⟨S8x20000x4, .f32⟩ : BufTy).Contents (Elt F)),
    nullary main_cst_52 (constant S_ .f32 0x40900000#32),
    unary main_cst_52 main_v260 (broadcastInDim S8x20000x4 ![] bcast_S_S8x20000x4 : (⟨S_, .f32⟩ : BufTy).Contents (Elt F) → (⟨S8x20000x4, .f32⟩ : BufTy).Contents (Elt F)),
    binary main_v260 main_v259 main_v261 (mulf : (⟨S8x20000x4, .f32⟩ : BufTy).Contents (Elt F) → (⟨S8x20000x4, .f32⟩ : BufTy).Contents (Elt F) → (⟨S8x20000x4, .f32⟩ : BufTy).Contents (Elt F)),
    nullary main_cst_53 (constant S_ .f32 0x3D638E39#32),
    unary main_cst_53 main_v262 (broadcastInDim S8x20000x4 ![] bcast_S_S8x20000x4 : (⟨S_, .f32⟩ : BufTy).Contents (Elt F) → (⟨S8x20000x4, .f32⟩ : BufTy).Contents (Elt F)),
    binary main_v256 main_v262 main_v263 (subf : (⟨S8x20000x4, .f32⟩ : BufTy).Contents (Elt F) → (⟨S8x20000x4, .f32⟩ : BufTy).Contents (Elt F) → (⟨S8x20000x4, .f32⟩ : BufTy).Contents (Elt F)),
    TRef.ternary (TRef.of (T := ⟨S8x20000x4, .i1⟩) main_v258) (TRef.of (T := ⟨S8x20000x4, .f32⟩) main_v261) (TRef.of (T := ⟨S8x20000x4, .f32⟩) main_v263) (TRef.of (T := ⟨S8x20000x4, .f32⟩) main_v264) select,
    unary main_v111 main_v265 (broadcastInDim S8x20000x1 ![0, 1] bcast_S8x20000_S8x20000x1_0_1 : (⟨S8x20000, .i1⟩ : BufTy).Contents (Elt F) → (⟨S8x20000x1, .i1⟩ : BufTy).Contents (Elt F)),
    unary main_v265 main_v266 (uitofp .f32 : (⟨S8x20000x1, .i1⟩ : BufTy).Contents (Elt F) → (⟨S8x20000x1, .f32⟩ : BufTy).Contents (Elt F)),
    unary main_v266 main_v267 (broadcastInDim S8x20000x4 ![0, 1, 2] bcast_S8x20000x1_S8x20000x4_0_1_2 : (⟨S8x20000x1, .f32⟩ : BufTy).Contents (Elt F) → (⟨S8x20000x4, .f32⟩ : BufTy).Contents (Elt F)),
    binary main_v264 main_v267 main_v268 (mulf : (⟨S8x20000x4, .f32⟩ : BufTy).Contents (Elt F) → (⟨S8x20000x4, .f32⟩ : BufTy).Contents (Elt F) → (⟨S8x20000x4, .f32⟩ : BufTy).Contents (Elt F)) ]

/-- Host operations of `main`: the regression sum over its count, and the three means. -/
abbrev lJ : List (HloOp τ sig (Elt F)) :=
  [ nullary main_cst_54 (constant S_ .f32 0x00000000#32),
    binary main_v268 main_cst_54 main_v269 ((fun x v => Host.reduceAdd x v reducesTo_S8x20000x4_S8_d1_2 h_S_) : (⟨S8x20000x4, .f32⟩ : BufTy).Contents (Elt F) → (⟨S_, .f32⟩ : BufTy).Contents (Elt F) → (⟨S8, .f32⟩ : BufTy).Contents (Elt F)),
    nullary main_cst_55 (constant S_ .f32 0x40800000#32),
    unary main_cst_55 main_v270 (broadcastInDim S8 ![] bcast_S_S8 : (⟨S_, .f32⟩ : BufTy).Contents (Elt F) → (⟨S8, .f32⟩ : BufTy).Contents (Elt F)),
    binary main_v116 main_v270 main_v271 (mulf : (⟨S8, .f32⟩ : BufTy).Contents (Elt F) → (⟨S8, .f32⟩ : BufTy).Contents (Elt F) → (⟨S8, .f32⟩ : BufTy).Contents (Elt F)),
    nullary main_cst_56 (constant S_ .f32 0x3F800000#32),
    unary main_cst_56 main_v272 (broadcastInDim S8 ![] bcast_S_S8 : (⟨S_, .f32⟩ : BufTy).Contents (Elt F) → (⟨S8, .f32⟩ : BufTy).Contents (Elt F)),
    binary main_v271 main_v272 main_v273 (maximumf : (⟨S8, .f32⟩ : BufTy).Contents (Elt F) → (⟨S8, .f32⟩ : BufTy).Contents (Elt F) → (⟨S8, .f32⟩ : BufTy).Contents (Elt F)),
    binary main_v269 main_v273 main_v274 (Host.divf : (⟨S8, .f32⟩ : BufTy).Contents (Elt F) → (⟨S8, .f32⟩ : BufTy).Contents (Elt F) → (⟨S8, .f32⟩ : BufTy).Contents (Elt F)),
    nullary main_cst_57 (constant S_ .f32 0x00000000#32),
    binary main_v207 main_cst_57 main_v275 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v275 main_v276 (broadcastInDim S1 ![] bcast_S_S1 : (⟨S_, .f32⟩ : BufTy).Contents (Elt F) → (⟨S1, .f32⟩ : BufTy).Contents (Elt F)),
    nullary main_cst_58 (constant S_ .f32 0x41000000#32),
    unary main_cst_58 main_v277 (broadcastInDim S1 ![] bcast_S_S1 : (⟨S_, .f32⟩ : BufTy).Contents (Elt F) → (⟨S1, .f32⟩ : BufTy).Contents (Elt F)),
    binary main_v276 main_v277 main_v278 (Host.divf : (⟨S1, .f32⟩ : BufTy).Contents (Elt F) → (⟨S1, .f32⟩ : BufTy).Contents (Elt F) → (⟨S1, .f32⟩ : BufTy).Contents (Elt F)),
    nullary main_cst_59 (constant S_ .f32 0x00000000#32),
    binary main_v203 main_cst_59 main_v279 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v279 main_v280 (broadcastInDim S1 ![] bcast_S_S1 : (⟨S_, .f32⟩ : BufTy).Contents (Elt F) → (⟨S1, .f32⟩ : BufTy).Contents (Elt F)),
    nullary main_cst_60 (constant S_ .f32 0x41000000#32),
    unary main_cst_60 main_v281 (broadcastInDim S1 ![] bcast_S_S1 : (⟨S_, .f32⟩ : BufTy).Contents (Elt F) → (⟨S1, .f32⟩ : BufTy).Contents (Elt F)),
    binary main_v280 main_v281 main_v282 (Host.divf : (⟨S1, .f32⟩ : BufTy).Contents (Elt F) → (⟨S1, .f32⟩ : BufTy).Contents (Elt F) → (⟨S1, .f32⟩ : BufTy).Contents (Elt F)),
    nullary main_cst_61 (constant S_ .f32 0x00000000#32),
    binary main_v274 main_cst_61 main_v283 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v283 main_v284 (broadcastInDim S1 ![] bcast_S_S1 : (⟨S_, .f32⟩ : BufTy).Contents (Elt F) → (⟨S1, .f32⟩ : BufTy).Contents (Elt F)),
    nullary main_cst_62 (constant S_ .f32 0x41000000#32),
    unary main_cst_62 main_v285 (broadcastInDim S1 ![] bcast_S_S1 : (⟨S_, .f32⟩ : BufTy).Contents (Elt F) → (⟨S1, .f32⟩ : BufTy).Contents (Elt F)),
    binary main_v284 main_v285 main_v286 (Host.divf : (⟨S1, .f32⟩ : BufTy).Contents (Elt F) → (⟨S1, .f32⟩ : BufTy).Contents (Elt F) → (⟨S1, .f32⟩ : BufTy).Contents (Elt F)) ]

/-- Part 0 of `main` runs its operations in order. -/
theorem part0_eq (c : Dev nD) : main_part0 (F := F) c = seq (lA ++ (lB0)) := rfl

/-- Part 1 of `main` runs its operations in order. -/
theorem part1_eq (c : Dev nD) : main_part1 (F := F) c = seq (lB1 ++ (lC0)) := rfl

/-- Part 2 of `main` runs its operations in order. -/
theorem part2_eq (c : Dev nD) : main_part2 (F := F) c = seq (lC1 ++ (lD ++ (lE1 ++ (lE2 ++ (lF0))))) := rfl

/-- Part 3 of `main` runs its operations in order. -/
theorem part3_eq (c : Dev nD) : main_part3 (F := F) c = seq (lF1) := rfl

/-- Part 4 of `main` runs its operations in order. -/
theorem part4_eq (c : Dev nD) : main_part4 (F := F) c = seq (lF2 ++ (lG ++ (lH0))) := rfl

/-- Part 5 of `main` runs its operations in order. -/
theorem part5_eq (c : Dev nD) : main_part5 (F := F) c = seq (lH1 ++ (lI ++ (lJ))) := rfl

/-- All of `main`'s host operations, in order. -/
abbrev ops : List (HloOp τ sig (Elt F)) :=
  (lA ++ (lB0)) ++ ((lB1 ++ (lC0)) ++ ((lC1 ++ (lD ++ (lE1 ++ (lE2 ++ (lF0))))) ++ ((lF1) ++ ((lF2 ++ (lG ++ (lH0))) ++ ((lH1 ++ (lI ++ (lJ))))))))

/-- `main` is the run of its host operations in order. -/
theorem main_eq (c : Dev nD) : main (F := F) c = seq ops := by
  simp only [ops, seq_append, ← part0_eq c, ← part1_eq c, ← part2_eq c, ← part3_eq c, ← part4_eq c, ← part5_eq c]
  rfl

/-- An operation that touches only the core's own arrays and leaves none of its results open. -/
abbrev Plain (op : HloOp τ sig (Elt F)) : Prop := op.bufs ⊆ tcRefs τ sig ∧ op.fresh = ∅

/-- Every operation of `lA` is plain. -/
theorem plainA : (lA : List (HloOp τ sig (Elt F))).Forall Plain :=
  ⟨⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨nullary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨nullary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

/-- Every operation of `lB0` is plain. -/
theorem plainB0 : (lB0 : List (HloOp τ sig (Elt F))).Forall Plain :=
  ⟨⟨unary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨reshape_bufs_sub .., rfl⟩, ⟨unary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨reshape_bufs_sub .., rfl⟩, ⟨unary_bufs_sub .., rfl⟩, ⟨unary_bufs_sub .., rfl⟩, ⟨unary_bufs_sub .., rfl⟩, ⟨unary_bufs_sub .., rfl⟩⟩

/-- Every operation of `lB1` is plain. -/
theorem plainB1 : (lB1 : List (HloOp τ sig (Elt F))).Forall Plain :=
  ⟨⟨binary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨reshape_bufs_sub .., rfl⟩, ⟨unary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨reshape_bufs_sub .., rfl⟩, ⟨unary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩

/-- Every operation of `lC0` is plain. -/
theorem plainC0 : (lC0 : List (HloOp τ sig (Elt F))).Forall Plain :=
  ⟨⟨nullary_bufs_sub .., rfl⟩, ⟨binary_bufs_sub .., rfl⟩, ⟨nullary_bufs_sub .., rfl⟩, ⟨nullary_bufs_sub .., rfl⟩, ⟨nullary_bufs_sub .., rfl⟩, ⟨quaternary_bufs_sub .., rfl⟩, ⟨quaternary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩⟩

/-- Every operation of `lC1` is plain. -/
theorem plainC1 : (lC1 : List (HloOp τ sig (Elt F))).Forall Plain :=
  ⟨⟨unary_bufs_sub .., rfl⟩, ⟨binary_bufs_sub .., rfl⟩⟩

/-- Every operation of `lD` is plain. -/
theorem plainD : (lD : List (HloOp τ sig (Elt F))).Forall Plain :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨binary_bufs_sub .., rfl⟩, ⟨unary_bufs_sub .., rfl⟩, ⟨unary_bufs_sub .., rfl⟩, ⟨nullary_bufs_sub .., rfl⟩, ⟨binary_bufs_sub .., rfl⟩, ⟨unary_bufs_sub .., rfl⟩⟩

/-- Every operation of `lE1` is plain. -/
theorem plainE1 : (lE1 : List (HloOp τ sig (Elt F))).Forall Plain :=
  ⟨⟨nullary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨ternary_bufs_sub .., rfl⟩, ⟨unary_bufs_sub .., rfl⟩, ⟨nullary_bufs_sub .., rfl⟩, ⟨unary_bufs_sub .., rfl⟩, ⟨unary_bufs_sub .., rfl⟩, ⟨unary_bufs_sub .., rfl⟩, ⟨unary_bufs_sub .., rfl⟩, ⟨ternary_bufs_sub .., rfl⟩, ⟨unary_bufs_sub .., rfl⟩, ⟨reshape_bufs_sub .., rfl⟩, ⟨unary_bufs_sub .., rfl⟩, ⟨unary_bufs_sub .., rfl⟩, ⟨nullary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨ternary_bufs_sub .., rfl⟩⟩

/-- Every operation of `lE2` is plain. -/
theorem plainE2 : (lE2 : List (HloOp τ sig (Elt F))).Forall Plain :=
  ⟨⟨nullary_bufs_sub .., rfl⟩, ⟨unary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨unary_bufs_sub .., rfl⟩, ⟨unary_bufs_sub .., rfl⟩, ⟨unary_bufs_sub .., rfl⟩, ⟨ternary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨unary_bufs_sub .., rfl⟩, ⟨unary_bufs_sub .., rfl⟩, ⟨ternary_bufs_sub .., rfl⟩⟩

/-- Every operation of `lF0` is plain. -/
theorem plainF0 : (lF0 : List (HloOp τ sig (Elt F))).Forall Plain :=
  ⟨⟨nullary_bufs_sub .., rfl⟩, ⟨unary_bufs_sub .., rfl⟩, ⟨binary_bufs_sub .., rfl⟩, ⟨nullary_bufs_sub .., rfl⟩, ⟨nullary_bufs_sub .., rfl⟩, ⟨unary_bufs_sub .., rfl⟩, ⟨unary_bufs_sub .., rfl⟩, ⟨unary_bufs_sub .., rfl⟩, ⟨unary_bufs_sub .., rfl⟩, ⟨ternary_bufs_sub .., rfl⟩, ⟨nullary_bufs_sub .., rfl⟩⟩

/-- Every operation of `lF1` is plain. -/
theorem plainF1 : (lF1 : List (HloOp τ sig (Elt F))).Forall Plain :=
  ⟨⟨unary_bufs_sub .., rfl⟩, ⟨binary_bufs_sub .., rfl⟩, ⟨nullary_bufs_sub .., rfl⟩, ⟨nullary_bufs_sub .., rfl⟩, ⟨unary_bufs_sub .., rfl⟩, ⟨unary_bufs_sub .., rfl⟩, ⟨unary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨unary_bufs_sub .., rfl⟩, ⟨unary_bufs_sub .., rfl⟩, ⟨ternary_bufs_sub .., rfl⟩, ⟨nullary_bufs_sub .., rfl⟩⟩

/-- Every operation of `lF2` is plain. -/
theorem plainF2 : (lF2 : List (HloOp τ sig (Elt F))).Forall Plain :=
  ⟨⟨unary_bufs_sub .., rfl⟩, ⟨binary_bufs_sub .., rfl⟩, ⟨binary_bufs_sub .., rfl⟩, ⟨nullary_bufs_sub .., rfl⟩, ⟨unary_bufs_sub .., rfl⟩, ⟨unary_bufs_sub .., rfl⟩, ⟨unary_bufs_sub .., rfl⟩, ⟨ternary_bufs_sub .., rfl⟩⟩

/-- Every operation of `lG` is plain. -/
theorem plainG : (lG : List (HloOp τ sig (Elt F))).Forall Plain :=
  ⟨⟨nullary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩⟩

/-- Every operation of `lH0` is plain. -/
theorem plainH0 : (lH0 : List (HloOp τ sig (Elt F))).Forall Plain :=
  ⟨⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩⟩

/-- Every operation of `lH1` is plain. -/
theorem plainH1 : (lH1 : List (HloOp τ sig (Elt F))).Forall Plain :=
  ⟨⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨binary_bufs_sub .., rfl⟩, ⟨unary_bufs_sub .., rfl⟩⟩

/-- Every operation of `lI` is plain. -/
theorem plainI : (lI : List (HloOp τ sig (Elt F))).Forall Plain :=
  ⟨⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨unary_bufs_sub .., rfl⟩, ⟨unary_bufs_sub .., rfl⟩, ⟨binary_bufs_sub .., rfl⟩⟩

/-- Every operation of `lJ` is plain. -/
theorem plainJ : (lJ : List (HloOp τ sig (Elt F))).Forall Plain :=
  ⟨⟨nullary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩⟩

/-- Every operation of `main` is plain. -/
theorem ops_plain : ∀ op ∈ (ops : List (HloOp τ sig (Elt F))), Plain op := by
  intro op h
  simp only [ops, List.mem_append, or_assoc] at h
  rcases h with h | h | h | h | h | h | h | h | h | h | h | h | h | h | h | h
  exacts [List.forall_iff_forall_mem.mp plainA op h, List.forall_iff_forall_mem.mp plainB0 op h, List.forall_iff_forall_mem.mp plainB1 op h, List.forall_iff_forall_mem.mp plainC0 op h, List.forall_iff_forall_mem.mp plainC1 op h, List.forall_iff_forall_mem.mp plainD op h, List.forall_iff_forall_mem.mp plainE1 op h, List.forall_iff_forall_mem.mp plainE2 op h, List.forall_iff_forall_mem.mp plainF0 op h, List.forall_iff_forall_mem.mp plainF1 op h, List.forall_iff_forall_mem.mp plainF2 op h, List.forall_iff_forall_mem.mp plainG op h, List.forall_iff_forall_mem.mp plainH0 op h, List.forall_iff_forall_mem.mp plainH1 op h, List.forall_iff_forall_mem.mp plainI op h, List.forall_iff_forall_mem.mp plainJ op h]

/-- The arrays that `lA` writes. -/
abbrev wA : List (Ref sig .tc) := [main_v0, main_v1, main_v2, main_v3, main_v4, main_v5, main_v6, main_v7, main_v8, main_v9, main_v10, main_v11, main_v12, main_cst, main_v13, main_v14, main_v15, main_v16, main_v17, main_cst_0, main_v18, main_v19, main_v20, main_cst_1, main_cst_2, main_call0_v0, main_call0_v1, main_call0_v2, main_call0_v3, main_call0_v4, main_v21, main_cst_3, main_cst_4, main_call1_v0, main_call1_v1, main_call1_v2, main_call1_v3, main_call1_v4, main_v22]

/-- `lA` leaves every other array as it was. -/
theorem keepA (V : Valuation τ sig (Elt F)) (r : Ref sig .tc) (h : r ∉ wA) :
    after lA V (Proc.devRef .tc r) = V (Proc.devRef .tc r) :=
  after_unwritten wA rfl h V

/-- The arrays that `lB0` writes. -/
abbrev wB0 : List (Ref sig .tc) := [main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53]

/-- `lB0` leaves every other array as it was. -/
theorem keepB0 (V : Valuation τ sig (Elt F)) (r : Ref sig .tc) (h : r ∉ wB0) :
    after lB0 V (Proc.devRef .tc r) = V (Proc.devRef .tc r) :=
  after_unwritten wB0 rfl h V

/-- The arrays that `lB1` writes. -/
abbrev wB1 : List (Ref sig .tc) := [main_v54, main_v55, main_v56, main_v57, main_v58, main_v59, main_v60, main_v61, main_v62, main_v63, main_v64, main_v65, main_v66, main_v67, main_v68, main_v69, main_v70, main_v71, main_v72, main_v73, main_v74, main_v75, main_v76, main_cst_5, main_call2_v0, main_call2_v1, main_v77, main_cst_6, main_call3_v0, main_call3_v1, main_v78, main_v79, main_v80, main_v81, main_v82, main_v83, main_v84, main_v85, main_v86, main_v87, main_v88, main_v89, main_v90, main_v91, main_v92, main_v93, main_v94, main_v95, main_v96, main_v97, main_cst_7, main_call4_v0, main_call4_v1, main_v98, main_v99, main_v100]

/-- `lB1` leaves every other array as it was. -/
theorem keepB1 (V : Valuation τ sig (Elt F)) (r : Ref sig .tc) (h : r ∉ wB1) :
    after lB1 V (Proc.devRef .tc r) = V (Proc.devRef .tc r) :=
  after_unwritten wB1 rfl h V

/-- The arrays that `lC0` writes. -/
abbrev wC0 : List (Ref sig .tc) := [main_cst_8, main_v101, main_call5_v0, main_call5_cst, main_call5_c, main_call5_v1_0, main_v102, main_c, main_v103, main_v104, main_c_9, main_v105, main_v106, main_v107]

/-- `lC0` leaves every other array as it was. -/
theorem keepC0 (V : Valuation τ sig (Elt F)) (r : Ref sig .tc) (h : r ∉ wC0) :
    after lC0 V (Proc.devRef .tc r) = V (Proc.devRef .tc r) :=
  after_unwritten wC0 rfl h V

/-- The arrays that `lC1` writes. -/
abbrev wC1 : List (Ref sig .tc) := [main_v108, main_v109]

/-- `lC1` leaves every other array as it was. -/
theorem keepC1 (V : Valuation τ sig (Elt F)) (r : Ref sig .tc) (h : r ∉ wC1) :
    after lC1 V (Proc.devRef .tc r) = V (Proc.devRef .tc r) :=
  after_unwritten wC1 rfl h V

/-- The arrays that `lD` writes. -/
abbrev wD : List (Ref sig .tc) := [main_cst_10, main_v110, main_v111, main_cst_11, main_v112, main_v113, main_v114, main_c_12, main_v115, main_v116, main_v117, main_c_13, main_v118, main_v119]

/-- `lD` leaves every other array as it was. -/
theorem keepD (V : Valuation τ sig (Elt F)) (r : Ref sig .tc) (h : r ∉ wD) :
    after lD V (Proc.devRef .tc r) = V (Proc.devRef .tc r) :=
  after_unwritten wD rfl h V

/-- The arrays that `lE1` writes. -/
abbrev wE1 : List (Ref sig .tc) := [main_cst_14, main_v120, main_cst_15, main_v121, main_v122, main_v123, main_cst_16, main_call6_v0, main_call6_v1, main_call6_v2, main_call6_v3, main_call6_v4, main_v124, main_v125, main_cst_17, main_call7_v0, main_call7_v1, main_call7_v2, main_call7_v3, main_v126, main_v127, main_v128, main_v129, main_call8_v0, main_call8_v1, main_call8_v2, main_call8_v3, main_call8_v4, main_call8_v5, main_v130, main_v131, main_call9_v0, main_v132]

/-- `lE1` leaves every other array as it was. -/
theorem keepE1 (V : Valuation τ sig (Elt F)) (r : Ref sig .tc) (h : r ∉ wE1) :
    after lE1 V (Proc.devRef .tc r) = V (Proc.devRef .tc r) :=
  after_unwritten wE1 rfl h V

/-- The arrays that `lE2` writes. -/
abbrev wE2 : List (Ref sig .tc) := [main_cst_18, main_v133, main_v134, main_v135, main_cst_19, main_v136, main_v137, main_v138, main_v139, main_cst_20, main_call10_v0, main_call10_v1, main_call10_v2, main_call10_v3, main_v140, main_v141, main_v142, main_cst_21, main_v143, main_v144, main_v145, main_v146, main_cst_22, main_call11_v0, main_call11_v1, main_call11_v2, main_v147]

/-- `lE2` leaves every other array as it was. -/
theorem keepE2 (V : Valuation τ sig (Elt F)) (r : Ref sig .tc) (h : r ∉ wE2) :
    after lE2 V (Proc.devRef .tc r) = V (Proc.devRef .tc r) :=
  after_unwritten wE2 rfl h V

/-- The arrays that `lF0` writes. -/
abbrev wF0 : List (Ref sig .tc) := [main_cst_23, main_v148, main_v149, main_cst_24, main_cst_25, main_call12_v0, main_call12_v1, main_call12_v2, main_call12_v3, main_v150, main_cst_26]

/-- `lF0` leaves every other array as it was. -/
theorem keepF0 (V : Valuation τ sig (Elt F)) (r : Ref sig .tc) (h : r ∉ wF0) :
    after lF0 V (Proc.devRef .tc r) = V (Proc.devRef .tc r) :=
  after_unwritten wF0 rfl h V

/-- The arrays that `lF1` writes. -/
abbrev wF1 : List (Ref sig .tc) := [main_v151, main_v152, main_cst_27, main_cst_28, main_call13_v0, main_call13_v1, main_call13_v2, main_call13_v3, main_v153, main_cst_29, main_v154, main_v155, main_cst_30, main_v156, main_v157, main_v158, main_cst_31, main_v159, main_v160, main_v161, main_v162, main_cst_32, main_v163, main_v164, main_cst_33, main_v165, main_v166, main_v167, main_cst_34, main_v168, main_v169, main_v170, main_v171, main_v172, main_v173, main_cst_35, main_v174, main_v175, main_cst_36, main_v176, main_v177, main_v178, main_v179, main_v180, main_v181, main_v182, main_v183, main_cst_37, main_v184, main_v185, main_cst_38, main_v186, main_v187, main_v188, main_v189, main_v190, main_v191, main_cst_39, main_v192, main_v193, main_v194, main_cst_40, main_call16_v0, main_call16_v1, main_call16_v2, main_v195, main_cst_41]

/-- `lF1` leaves every other array as it was. -/
theorem keepF1 (V : Valuation τ sig (Elt F)) (r : Ref sig .tc) (h : r ∉ wF1) :
    after lF1 V (Proc.devRef .tc r) = V (Proc.devRef .tc r) :=
  after_unwritten wF1 rfl h V

/-- The arrays that `lF2` writes. -/
abbrev wF2 : List (Ref sig .tc) := [main_v196, main_v197, main_v198, main_cst_42, main_call17_v0, main_call17_v1, main_call17_v2, main_v199]

/-- `lF2` leaves every other array as it was. -/
theorem keepF2 (V : Valuation τ sig (Elt F)) (r : Ref sig .tc) (h : r ∉ wF2) :
    after lF2 V (Proc.devRef .tc r) = V (Proc.devRef .tc r) :=
  after_unwritten wF2 rfl h V

/-- The arrays that `lG` writes. -/
abbrev wG : List (Ref sig .tc) := [main_cst_43, main_v200, main_cst_44, main_v201, main_v202, main_v203, main_cst_45, main_v204, main_cst_46, main_v205, main_v206, main_v207]

/-- `lG` leaves every other array as it was. -/
theorem keepG (V : Valuation τ sig (Elt F)) (r : Ref sig .tc) (h : r ∉ wG) :
    after lG V (Proc.devRef .tc r) = V (Proc.devRef .tc r) :=
  after_unwritten wG rfl h V

/-- The arrays that `lH0` writes. -/
abbrev wH0 : List (Ref sig .tc) := [main_v208, main_v209, main_v210, main_v211, main_v212, main_v213, main_v214, main_v215, main_v216, main_v217, main_v218, main_v219, main_cst_47, main_v220, main_v221, main_v222, main_v223, main_v224, main_cst_48, main_v225, main_v226, main_v227, main_cst_49, main_call18_v0, main_call18_v1, main_v228, main_cst_50, main_call19_v0, main_call19_v1, main_v229, main_v230, main_v231, main_v232, main_v233, main_v234, main_v235, main_v236, main_v237, main_v238, main_v239, main_v240, main_v241, main_v242, main_v243, main_v244, main_v245, main_v246]

/-- `lH0` leaves every other array as it was. -/
theorem keepH0 (V : Valuation τ sig (Elt F)) (r : Ref sig .tc) (h : r ∉ wH0) :
    after lH0 V (Proc.devRef .tc r) = V (Proc.devRef .tc r) :=
  after_unwritten wH0 rfl h V

/-- The arrays that `lH1` writes. -/
abbrev wH1 : List (Ref sig .tc) := [main_v247, main_v248, main_v249, main_v250, main_v251, main_v252, main_v253, main_v254, main_v255, main_v256]

/-- `lH1` leaves every other array as it was. -/
theorem keepH1 (V : Valuation τ sig (Elt F)) (r : Ref sig .tc) (h : r ∉ wH1) :
    after lH1 V (Proc.devRef .tc r) = V (Proc.devRef .tc r) :=
  after_unwritten wH1 rfl h V

/-- The arrays that `lI` writes. -/
abbrev wI : List (Ref sig .tc) := [main_cst_51, main_v257, main_v258, main_v259, main_cst_52, main_v260, main_v261, main_cst_53, main_v262, main_v263, main_v264, main_v265, main_v266, main_v267, main_v268]

/-- `lI` leaves every other array as it was. -/
theorem keepI (V : Valuation τ sig (Elt F)) (r : Ref sig .tc) (h : r ∉ wI) :
    after lI V (Proc.devRef .tc r) = V (Proc.devRef .tc r) :=
  after_unwritten wI rfl h V

/-- The arrays that `lJ` writes. -/
abbrev wJ : List (Ref sig .tc) := [main_cst_54, main_v269, main_cst_55, main_v270, main_v271, main_cst_56, main_v272, main_v273, main_v274, main_cst_57, main_v275, main_v276, main_cst_58, main_v277, main_v278, main_cst_59, main_v279, main_v280, main_cst_60, main_v281, main_v282, main_cst_61, main_v283, main_v284, main_cst_62, main_v285, main_v286]

/-- `lJ` leaves every other array as it was. -/
theorem keepJ (V : Valuation τ sig (Elt F)) (r : Ref sig .tc) (h : r ∉ wJ) :
    after lJ V (Proc.devRef .tc r) = V (Proc.devRef .tc r) :=
  after_unwritten wJ rfl h V

/-- No array of the program is scoped. -/
theorem scopedRefs_none : (Finset.univ.filter fun b : Ref sig .tc => b.isScoped) = ∅ := by decide

/-- No semaphore of the program is scoped. -/
theorem scopedSems_none : (Finset.univ.filter fun sm : SemLoc sig => sm.isScoped .tc) = ∅ := by decide

end Cert.RefRun

end
-- ==== Proof.Ref.Assign.lean ====
/-
  The reference's assignment of an annotation to an anchor: its arg-max is the first annotation with the best overlap,
  and its gather reads that annotation.
-/
module

public import proofs.«01_k».proof.Proof.Math.Who
public import proofs.«01_k».proof.Proof.Ref.Ops
public import Idealize.ShloMosaic.Lib.Pointwise
public import Idealize.ShloMosaic.PureOps.Ideal.Laws

@[expose] public section

noncomputable section

namespace Cert.RefRun

open Cert.ReferenceIdeal Cert.ReferenceIdeal.Gen Idealize.ShloMosaic Cert.Focal

/-- A pair of an overlap and its index is at least as good as another: a larger overlap, or the same no later. -/
def Good (a b : EReal × BitVec 32) : Prop := b.1 < a.1 ∨ (a.1 = b.1 ∧ a.2.toInt ≤ b.2.toInt)

/-- A pair is as good as itself. -/
theorem good_refl (a : EReal × BitVec 32) : Good a a := Or.inr ⟨rfl, le_rfl⟩

/-- Being as good is transitive. -/
theorem good_trans {a b c : EReal × BitVec 32} (h : Good a b) (g : Good b c) : Good a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

/-- One step of the arg-max takes one of its two pairs, the better one. -/
theorem step_good (a b : EReal × BitVec 32) :
    (reducer_argmax_f32_i32 (F := Ideal) a b = a ∧ Good a b) ∨ (reducer_argmax_f32_i32 (F := Ideal) a b = b ∧ Good b a) := by
  obtain ⟨x, i⟩ := a
  obtain ⟨y, j⟩ := b
  have hs : i.slt j = decide (i.toInt < j.toInt) := rfl
  rcases lt_trichotomy x y with h | h | h
  · right
    refine ⟨?_, Or.inl h⟩
    simp [reducer_argmax_f32_i32, Ideal.cmpf_def (φ := .f32), Ideal.cmp, IntOp.ori, IntOp.andi, Scalar.select, not_lt.2 h.le, h.ne]
  · subst h
    by_cases g : i.toInt < j.toInt
    · left
      refine ⟨?_, Or.inr ⟨rfl, g.le⟩⟩
      simp [reducer_argmax_f32_i32, Ideal.cmpf_def (φ := .f32), Ideal.cmp, IntOp.ori, IntOp.andi, IntOp.cmpi, Scalar.select, hs, g]
    · right
      refine ⟨?_, Or.inr ⟨rfl, not_lt.1 g⟩⟩
      simp [reducer_argmax_f32_i32, Ideal.cmpf_def (φ := .f32), Ideal.cmp, IntOp.ori, IntOp.andi, IntOp.cmpi, Scalar.select, hs, g]
  · left
    refine ⟨?_, Or.inl h⟩
    simp [reducer_argmax_f32_i32, Ideal.cmpf_def (φ := .f32), Ideal.cmp, IntOp.ori, IntOp.andi, Scalar.select, h, h.ne']

/-- The fold of the arg-max over a list takes the start or one of the list's pairs, at least as good as all of them. -/
theorem foldl_good (l : List (EReal × BitVec 32)) : ∀ p : EReal × BitVec 32,
    (l.foldl (reducer_argmax_f32_i32 (F := Ideal)) p = p ∨ l.foldl (reducer_argmax_f32_i32 (F := Ideal)) p ∈ l)
      ∧ Good (l.foldl (reducer_argmax_f32_i32 (F := Ideal)) p) p
      ∧ ∀ q ∈ l, Good (l.foldl (reducer_argmax_f32_i32 (F := Ideal)) p) q := by
  induction l with
  | nil => exact fun p => ⟨Or.inl rfl, good_refl p, fun q h => absurd h (List.not_mem_nil)⟩
  | cons b l ih =>
    intro p
    obtain ⟨h1, h2, h3⟩ := ih (reducer_argmax_f32_i32 (F := Ideal) p b)
    rw [List.foldl_cons]
    rcases step_good p b with ⟨e, g⟩ | ⟨e, g⟩ <;> rw [e] at h1 h2 h3 ⊢
    · refine ⟨h1.imp_right (List.mem_cons_of_mem _), h2, fun q hq => ?_⟩
      rcases List.mem_cons.1 hq with rfl | hq
      · exact good_trans h2 g
      · exact h3 q hq
    · refine ⟨Or.inr ?_, good_trans h2 g, fun q hq => ?_⟩
      · rcases h1 with h1 | h1
        · rw [h1]; exact List.mem_cons_self
        · exact List.mem_cons_of_mem _ h1
      · rcases List.mem_cons.1 hq with rfl | hq
        · exact h2
        · exact h3 q hq

/-- The arg-max over the annotations, read at an anchor of an image: the first with the best overlap. -/
theorem argmax_at (x : (⟨S8x20000x100, .f32⟩ : BufTy).Contents (Elt Ideal)) (b : Fin 8) (n : Fin 20000) :
    (Host.argReduce (reducer_argmax_f32_i32 (F := Ideal)) x (iotaInDim S8x20000x100 32 2) (constant (F := Ideal) S_ .f32 4286578688#32)
        (constantI S_ 32 0#32) reducesTo_S8x20000x100_S8x20000_d2 h_S_ (ix2 b n)).2
      = BitVec.ofNat 32 (who fun g => x (ix3 b n g)).val := by
  rw [Ideal.argReduce_eq_reduce2, Host.reduce2_eq_foldl_fiber]
  set l := Host.argReduceFiber x (iotaInDim S8x20000x100 32 2) reducesTo_S8x20000x100_S8x20000_d2 (ix2 b n) with hl
  have small : ∀ k : Fin 100, (BitVec.ofNat 32 k.val).toInt = k.val := fun k => toInt_small ⟨k.val, by omega⟩
  have mem : ∀ p, p ∈ l ↔ ∃ g : Fin 100, p = (x (ix3 b n g), BitVec.ofNat 32 g.val) := by
    intro p
    rw [hl, Host.argReduceFiber, List.mem_map]
    constructor
    · rintro ⟨i, hi, rfl⟩
      obtain ⟨-, hi⟩ := List.mem_filter.1 hi
      have hd := of_decide_eq_true hi
      obtain ⟨j, hj⟩ : ∃ j, S8x20000x100.rowMajor.symm i = j := ⟨_, rfl⟩
      rw [hj] at hd ⊢
      rw [show j = ix3 (j 0) (j 1) (j 2) by funext a; fin_cases a <;> rfl] at hd ⊢
      have e0 : j 0 = b := congrFun hd 0
      have e1 : j 1 = n := congrFun hd 1
      exact ⟨j 2, by rw [e0, e1]; rfl⟩
    · rintro ⟨g, rfl⟩
      refine ⟨S8x20000x100.rowMajor (ix3 b n g), List.mem_filter.2 ⟨List.mem_finRange _, ?_⟩, ?_⟩
      · rw [Equiv.symm_apply_apply]
        refine decide_eq_true (funext fun a => ?_)
        fin_cases a <;> rfl
      · rw [Equiv.symm_apply_apply]
        rfl
  obtain ⟨h1, h2, h3⟩ := foldl_good l ((constant (F := Ideal) S_ .f32 4286578688#32) (Shape.Idx.first h_S_), (constantI S_ 32 0#32) (Shape.Idx.first h_S_))
  have good : ∀ (k : Fin 100) (r : EReal × BitVec 32), r = (x (ix3 b n k), BitVec.ofNat 32 k.val) → (∀ q ∈ l, Good r q) →
      r.2 = BitVec.ofNat 32 (who fun g => x (ix3 b n g)).val := by
    rintro k r rfl h
    rw [← eq_who (fun g => x (ix3 b n g)) k fun j => ?_]
    rcases h _ ((mem _).2 ⟨j, rfl⟩) with g | ⟨g, g'⟩
    · exact Or.inl g
    · exact Or.inr ⟨g, by rw [small, small] at g'; exact_mod_cast g'⟩
  rcases h1 with h1 | h1
  · rw [h1] at h3 ⊢
    have e : x (ix3 b n (0 : Fin 100)) = ⊥ := by
      rcases h3 _ ((mem _).2 ⟨0, rfl⟩) with g | ⟨g, -⟩
      · exact absurd g (by show ¬ _ < C 4286578688#32; rw [C_neg_inf]; exact not_lt_bot)
      · exact g.symm.trans C_neg_inf
    exact good 0 _ (Prod.ext (C_neg_inf.trans e.symm) rfl) h3
  · obtain ⟨k, hk⟩ := (mem _).1 h1
    exact good k _ hk h3

/-- The gather of the annotations, read at an anchor whose index is the number of an annotation. -/
theorem gather_at (x : (⟨S8x100x6, .f32⟩ : BufTy).Contents (Elt Ideal)) (idx : IVec S8x20000x1 32) (b : Fin 8) (n : Fin 20000)
    (q : Fin 6) (g : Fin 100) (h : idx (ix3 b n 0) = BitVec.ofNat 32 g.val) :
    Host.gather gather_S8x100x6_S8x20000x1_S8x20000x6_2_1_0_0_1_2_116 x idx (ix3 b n q) = x (ix3 b g q) := by
  unfold Host.gather
  congr 1
  funext a
  refine Fin.ext ?_
  show gather_S8x100x6_S8x20000x1_S8x20000x6_2_1_0_0_1_2_116.start (ix3 b n q) idx a
    + gather_S8x100x6_S8x20000x1_S8x20000x6_2_1_0_0_1_2_116.batchCoord (ix3 b n q) a
    + gather_S8x100x6_S8x20000x1_S8x20000x6_2_1_0_0_1_2_116.offCoord (ix3 b n q) a = _
  fin_cases a
  · show 0 + b.val + 0 = b.val
    omega
  · have e : (BitVec.ofNat 32 g.val).toInt = g.val := toInt_small ⟨g.val, by omega⟩
    show min (idx _).toInt.toNat 99 + 0 + 0 = g.val
    rw [show idx _ = BitVec.ofNat 32 g.val from (congrArg idx (by funext c; fin_cases c <;> rfl)).trans h, e]
    have := g.isLt
    simp only [Int.toNat_natCast]
    omega
  · show 0 + 0 + q.val = q.val
    omega

end Cert.RefRun

end
-- ==== Proof.Ref.Run.lean ====
/-
  The reference program's run: it ends in every fair execution, each array at what the list of host operations leaves
  there, the arguments as they were.
-/
module

public import proofs.«01_k».proof.Proof.Ref.Ops
public import Idealize.ShloMosaic.Lib.Quiescent

@[expose] public section

set_option maxRecDepth 8192

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- The arrays after the first stages, up to the two clipped probability arrays. -/
abbrev sA (V : Valuation τ sig (Elt F)) : Valuation τ sig (Elt F) := after lA V
/-- … up to the overlaps. -/
abbrev sB (V : Valuation τ sig (Elt F)) : Valuation τ sig (Elt F) := after lB1 (after lB0 (sA V))
/-- … up to the assigned annotations. -/
abbrev sC (V : Valuation τ sig (Elt F)) : Valuation τ sig (Elt F) := after lC1 (after lC0 (sB V))
/-- … up to the counts of positive anchors. -/
abbrev sD (V : Valuation τ sig (Elt F)) : Valuation τ sig (Elt F) := after lD (sC V)
/-- … up to the targets. -/
abbrev sE (V : Valuation τ sig (Elt F)) : Valuation τ sig (Elt F) := after lE2 (after lE1 (sD V))
/-- … up to the masked losses. -/
abbrev sF (V : Valuation τ sig (Elt F)) : Valuation τ sig (Elt F) := after lF2 (after lF1 (after lF0 (sE V)))
/-- … up to the class and instance losses of an image. -/
abbrev sG (V : Valuation τ sig (Elt F)) : Valuation τ sig (Elt F) := after lG (sF V)
/-- … up to the distance of the regression from its target. -/
abbrev sH (V : Valuation τ sig (Elt F)) : Valuation τ sig (Elt F) := after lH1 (after lH0 (sG V))
/-- … up to the masked smooth distance. -/
abbrev sI (V : Valuation τ sig (Elt F)) : Valuation τ sig (Elt F) := after lI (sH V)
/-- … to the end. -/
abbrev sJ (V : Valuation τ sig (Elt F)) : Valuation τ sig (Elt F) := after lJ (sI V)

/-- The whole list is its stages one after another. -/
theorem after_ops (V : Valuation τ sig (Elt F)) : after ops V = sJ V := by
  simp only [ops, StableHlo.after_append]

/-- An array that no operation writes is at the end what it was at the start. -/
theorem unwritten (V : Valuation τ sig (Elt F)) (r : Ref sig .tc)
    (h : r ∉ wA ++ wB0 ++ wB1 ++ wC0 ++ wC1 ++ wD ++ wE1 ++ wE2 ++ wF0 ++ wF1 ++ wF2 ++ wG ++ wH0 ++ wH1 ++ wI ++ wJ) :
    after ops V (Proc.devRef .tc r) = V (Proc.devRef .tc r) := by
  simp only [List.mem_append, not_or] at h
  obtain ⟨⟨⟨⟨⟨⟨⟨⟨⟨⟨⟨⟨⟨⟨⟨hA, hB0⟩, hB1⟩, hC0⟩, hC1⟩, hD⟩, hE1⟩, hE2⟩, hF0⟩, hF1⟩, hF2⟩, hG⟩, hH0⟩, hH1⟩, hI⟩, hJ⟩ := h
  rw [after_ops]
  simp only [sA, sB, sC, sD, sE, sF, sG, sH, sI, sJ]
  rw [keepJ _ _ hJ, keepI _ _ hI, keepH1 _ _ hH1, keepH0 _ _ hH0, keepG _ _ hG, keepF2 _ _ hF2, keepF1 _ _ hF1,
    keepF0 _ _ hF0, keepE2 _ _ hE2, keepE1 _ _ hE1, keepD _ _ hD, keepC1 _ _ hC1, keepC0 _ _ hC0, keepB1 _ _ hB1,
    keepB0 _ _ hB0, keepA _ _ hA]

/-- The reference runs to the end with each array at what the list of operations leaves there and no semaphore raised. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_none scopedSems_none defs main (fun _ => ops) main_eq
    (fun _ => List.forall_iff_forall_mem.mpr fun op h => (ops_plain op h).1) m ρ fun _ op h => (ops_plain op h).2

/-- The reference runs to the end with its arguments as they were and no semaphore raised. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c =>
      ⟨(h c main_arg0).trans (unwritten _ _ (by decide)), (h c main_arg1).trans (unwritten _ _ (by decide)),
        (h c main_arg2).trans (unwritten _ _ (by decide)), (h c main_arg3).trans (unwritten _ _ (by decide)),
        (h c main_arg4).trans (unwritten _ _ (by decide))⟩, sem_eq_zero_of_no_sems (by decide) r.2⟩) (run m ρ)

end Cert.RefRun

end
-- ==== Proof.Ref.Read.lean ====
/-
  The reference's stages, each array that later stages or the results read, read at an index: what the stage computes
  from the arrays before it.
-/
module

public import proofs.«01_k».proof.Proof.Math.Spec
public import proofs.«01_k».proof.Proof.Ref.Assign
public import proofs.«01_k».proof.Proof.Ref.Run
public import Idealize.ShloMosaic.Lib.StableHlo.ReadAt
public import Idealize.ShloMosaic.Lib.Pointwise
public import Idealize.ShloMosaic.Lib.IndicatorCount

@[expose] public section

set_option maxRecDepth 16384

noncomputable section

namespace Cert.RefRun

open Cert.ReferenceIdeal Cert.ReferenceIdeal.Gen Idealize.ShloMosaic Idealize.ShloMosaic.TcCoe Idealize.SL.Sem
  Idealize.ShloMosaic.StableHlo Cert.Focal

/-- A rank-one array's value, as an extended real. -/
abbrev e1 {a : Nat} (x : (⟨⟨1, ![a]⟩, .f32⟩ : BufTy).Contents (Elt Ideal)) (i : Fin a) : EReal := x (ix1 i)
/-- A rank-two array's value. -/
abbrev e2 {a b : Nat} (x : (⟨⟨2, ![a, b]⟩, .f32⟩ : BufTy).Contents (Elt Ideal)) (i : Fin a) (j : Fin b) : EReal := x (ix2 i j)
/-- A rank-three array's value. -/
abbrev e3 {a b c : Nat} (x : (⟨⟨3, ![a, b, c]⟩, .f32⟩ : BufTy).Contents (Elt Ideal)) (i : Fin a) (j : Fin b) (k : Fin c) : EReal :=
  x (ix3 i j k)

variable (V : Valuation τ sig (Elt Ideal)) (b : Fin 8) (n : Fin 20000)

/-- The class probability, clipped. -/
theorem v22_at (k : Fin 80) : e3 (a := 8) (b := 20000) (c := 80) (after lA V main_v22) b n k
    = clip (e3 (a := 8) (b := 20000) (c := 80) (V main_arg1) b n k) := by
  simp only [e1, e2, e3]
  after_reads_at
  try simp only [id_eq]
  pointwise
  rfl

/-- The instance probability, clipped. -/
theorem v21_at : e3 (a := 8) (b := 20000) (c := 1) (after lA V main_v21) b n 0
    = clip (e3 (a := 8) (b := 20000) (c := 1) (V main_arg0) b n 0) := by
  simp only [e1, e2, e3]
  after_reads_at
  try simp only [id_eq]
  pointwise
  rfl

/-- The anchors as a table. -/
theorem v0_at (k : Fin 4) : e2 (a := 20000) (b := 4) (after lA V main_v0) n k
    = e3 (a := 1) (b := 20000) (c := 4) (V main_arg3) 0 n k := by
  simp only [e1, e2, e3]
  after_reads_at

/-- An anchor's width. -/
theorem v5_at : e1 (a := 20000) (after lA V main_v5) n
    = e3 (a := 1) (b := 20000) (c := 4) (V main_arg3) 0 n 3
      - e3 (a := 1) (b := 20000) (c := 4) (V main_arg3) 0 n 1 := by
  simp only [e1, e2, e3]
  after_reads_at

/-- An anchor's height. -/
theorem v10_at : e1 (a := 20000) (after lA V main_v10) n
    = e3 (a := 1) (b := 20000) (c := 4) (V main_arg3) 0 n 2
      - e3 (a := 1) (b := 20000) (c := 4) (V main_arg3) 0 n 0 := by
  simp only [e1, e2, e3]
  after_reads_at

/-- An anchor's middle across. -/
theorem v15_at : e1 (a := 20000) (after lA V main_v15) n
    = e3 (a := 1) (b := 20000) (c := 4) (V main_arg3) 0 n 1 + C 1056964608#32 *
      (e3 (a := 1) (b := 20000) (c := 4) (V main_arg3) 0 n 3
        - e3 (a := 1) (b := 20000) (c := 4) (V main_arg3) 0 n 1) := by
  simp only [e1, e2, e3]
  after_reads_at

/-- An anchor's middle down. -/
theorem v20_at : e1 (a := 20000) (after lA V main_v20) n
    = e3 (a := 1) (b := 20000) (c := 4) (V main_arg3) 0 n 0 + C 1056964608#32 *
      (e3 (a := 1) (b := 20000) (c := 4) (V main_arg3) 0 n 2
        - e3 (a := 1) (b := 20000) (c := 4) (V main_arg3) 0 n 0) := by
  simp only [e1, e2, e3]
  after_reads_at

set_option maxHeartbeats 2000000 in
/-- The overlap of an anchor and an annotation. -/
theorem v100_at (g : Fin 100) : e3 (a := 8) (b := 20000) (c := 100) (after lB1 (after lB0 V) main_v100) b n g
    = iou (fun k => e2 (a := 20000) (b := 4) (V main_v0) n k)
        (fun k => e3 (a := 8) (b := 100) (c := 6) (V main_arg4) b g k) := by
  simp only [e1, e2, e3]
  after_reads_at
  simp only [id_eq]
  pointwise
  simp only [iou, inter, max_comm _ (0 : EReal), max_comm _ (C 841731191#32)]

/-- The count of positive anchors, converted from the word it is counted in. -/
theorem count_eq (p : Fin 20000 → Prop) [∀ n, Decidable (p n)] :
    (FloatOps.sitofp (F := Ideal) FTy.f32 (Finset.fold IntOp.addi 0#32 (fun n => BitVec.setWidth 32 (BitVec.ofBool (decide (p n)))) Finset.univ) : EReal)
      = ∑ n, if p n then 1 else 0 := by
  rw [IndicatorCount.fold_addi_setWidth_eq_card (fun n => BitVec.ofBool (decide (p n)))]
  have hc : (Finset.univ.filter fun n => BitVec.ofBool (decide (p n)) = 1#1) = Finset.univ.filter p := by
    ext n
    by_cases h : p n <;> simp [h]
  rw [hc, Finset.sum_ite, Finset.sum_const_zero, add_zero, Finset.sum_const]
  have hl : (Finset.univ.filter p).card ≤ 20000 := (Finset.card_filter_le _ _).trans (by simp)
  generalize (Finset.univ.filter p).card = c at hl
  show (((BitVec.ofNat 32 c).toInt : ℝ) : EReal) = _
  have ht : (BitVec.ofNat 32 c).toInt = c := by
    have hm : c % 2 ^ 32 = c := Nat.mod_eq_of_lt (by omega)
    rw [BitVec.toInt_eq_toNat_of_lt (by rw [BitVec.toNat_ofNat, hm]; omega), BitVec.toNat_ofNat, hm]
  rw [ht]
  simp

/-- The number of an annotation is not negative, so the wrap of a negative index leaves it. -/
theorem wrap_word (k : Fin 100) :
    Scalar.select (IntOp.cmpi .slt (BitVec.ofNat 32 k.val) 0#32) (IntOp.addi (BitVec.ofNat 32 k.val) 100#32) (BitVec.ofNat 32 k.val)
      = BitVec.ofNat 32 k.val := by
  revert k
  decide +kernel

/-- The best overlap. -/
theorem v101_at : e2 (a := 8) (b := 20000) (after lC0 V main_v101) b n = best fun g => e3 (a := 8) (b := 20000) (c := 100) (V main_v100) b n g := by
  simp only [e1, e2, e3]
  after_reads_at
  pointwise
  rfl

/-- The index of the assigned annotation. -/
theorem v107_at : (after lC0 V main_v107 : (⟨S8x20000, .i32⟩ : BufTy).Contents (Elt Ideal)) (ix2 b n)
    = BitVec.ofNat 32 (who fun g => e3 (a := 8) (b := 20000) (c := 100) (V main_v100) b n g).val := by
  simp only [e1, e2, e3]
  after_reads_at
  rw [argmax_at]
  exact wrap_word _

/-- The assigned annotation. -/
theorem v109_at (g : Fin 100) (q : Fin 6)
    (h : (V main_v107 : (⟨S8x20000, .i32⟩ : BufTy).Contents (Elt Ideal)) (ix2 b n) = BitVec.ofNat 32 g.val) :
    e3 (a := 8) (b := 20000) (c := 6) (after lC1 V main_v109) b n q = e3 (a := 8) (b := 100) (c := 6) (V main_arg4) b g q := by
  simp only [e1, e2, e3]
  after_reads_at
  exact gather_at _ _ b n q g ((by pointwise : _ = _).trans h)

/-- Whether an anchor is positive for the classes. -/
theorem v111_at : (after lD V main_v111 : (⟨S8x20000, .i1⟩ : BufTy).Contents (Elt Ideal)) (ix2 b n)
    = bit (C 1056964608#32 ≤ e2 (a := 8) (b := 20000) (V main_v101) b n) := by
  simp only [e1, e2, e3]
  after_reads_at
  pointwise
  rfl

/-- Whether an anchor is positive for the instance loss. -/
theorem v113_at : (after lD V main_v113 : (⟨S8x20000, .i1⟩ : BufTy).Contents (Elt Ideal)) (ix2 b n)
    = bit (C 1050253722#32 ≤ e2 (a := 8) (b := 20000) (V main_v101) b n) := by
  simp only [e1, e2, e3]
  after_reads_at
  pointwise
  rfl

/-- How many anchors of an image are positive for the classes. -/
theorem v116_at : e1 (a := 8) (after lD V main_v116) b = ∑ n : Fin 20000, if C 1056964608#32 ≤ e2 (a := 8) (b := 20000) (V main_v101) b n then 1 else 0 := by
  simp only [e1, e2, e3]
  after_reads_at
  pointwise
  exact count_eq _

/-- How many anchors of an image are positive for the instance loss. -/
theorem v119_at : e1 (a := 8) (after lD V main_v119) b = ∑ n : Fin 20000, if C 1050253722#32 ≤ e2 (a := 8) (b := 20000) (V main_v101) b n then 1 else 0 := by
  simp only [e1, e2, e3]
  after_reads_at
  pointwise
  exact count_eq _

/-- The class targets. -/
theorem v132_at (k : Fin 80) (h : (V main_v111 : (⟨S8x20000, .i1⟩ : BufTy).Contents (Elt Ideal)) (ix2 b n) = bit (C 1056964608#32 ≤ e2 (a := 8) (b := 20000) (V main_v101) b n)) :
    e3 (a := 8) (b := 20000) (c := 80) (after lE1 V main_v132) b n k = clsT (e2 (a := 8) (b := 20000) (V main_v101) b n) (e3 (a := 8) (b := 20000) (c := 6) (V main_v109) b n 4) k := by
  simp only [e1, e2, e3] at h ⊢
  after_reads_at
  simp only [id_eq]
  pointwise
  rw [h]
  simp only [bit, select_bit]
  unfold clsT
  split_ifs <;> rfl

/-- The instance target. -/
theorem v147_at (h : (V main_v113 : (⟨S8x20000, .i1⟩ : BufTy).Contents (Elt Ideal)) (ix2 b n) = bit (C 1050253722#32 ≤ e2 (a := 8) (b := 20000) (V main_v101) b n)) :
    e3 (a := 8) (b := 20000) (c := 1) (after lE2 V main_v147) b n 0 = target (C 1050253722#32 ≤ e2 (a := 8) (b := 20000) (V main_v101) b n) (e3 (a := 8) (b := 20000) (c := 6) (V main_v109) b n 5) := by
  simp only [e1, e2, e3] at h ⊢
  after_reads_at
  simp only [id_eq]
  pointwise
  rw [h]
  simp only [bit, andi_bit, select_bit]
  exact target_swap (C 1050253722#32 ≤ V main_v101 (ix2 b n)) _

/-- The masked class loss. -/
theorem v195_at (k : Fin 80) (t x : EReal) (ht : e3 (a := 8) (b := 20000) (c := 80) (V main_v132) b n k = t) (hx : e3 (a := 8) (b := 20000) (c := 80) (V main_v22) b n k = clip x) :
    e3 (a := 8) (b := 20000) (c := 80) (after lF1 (after lF0 V) main_v195) b n k = clsR1 t x := by
  simp only [e1, e2, e3] at ht hx ⊢
  after_reads_at
  simp only [id_eq]
  pointwise
  rw [ht, hx]
  rfl

/-- The masked instance loss. -/
theorem v199_at (t x : EReal) (ht : e3 (a := 8) (b := 20000) (c := 1) (V main_v147) b n 0 = t) (hx : e3 (a := 8) (b := 20000) (c := 1) (V main_v21) b n 0 = clip x) :
    e3 (a := 8) (b := 20000) (c := 1) (after lF2 (after lF1 (after lF0 V)) main_v199) b n 0 = instR t x := by
  simp only [e1, e2, e3] at ht hx ⊢
  after_reads_at
  simp only [id_eq]
  pointwise
  rw [ht, hx]
  rw [ite_self]
  rfl

/-- An image's class loss. -/
theorem v203_at : e1 (a := 8) (after lG V main_v203) b
    = Ideal.div (∑ n : Fin 20000, ∑ k : Fin 80, e3 (a := 8) (b := 20000) (c := 80) (V main_v195) b n k) (max (e1 (a := 8) (V main_v116) b) 1) := by
  simp only [e1, e2, e3]
  after_reads_at

/-- An image's instance loss. -/
theorem v207_at : e1 (a := 8) (after lG V main_v207) b
    = Ideal.div (∑ n : Fin 20000, e3 (a := 8) (b := 20000) (c := 1) (V main_v199) b n 0) (max (e1 (a := 8) (V main_v119) b) 1) := by
  simp only [e1, e2, e3]
  after_reads_at
  pointwise
  simp only [Fin.sum_univ_one]

/-- The four columns put side by side, read at one of them. -/
theorem side_at (x0 x1 x2 x3 : (⟨S8x20000x1, .f32⟩ : BufTy).Contents (Elt Ideal)) (b : Fin 8) (n : Fin 20000) (k : Fin 4) :
    sideBySide x0 x1 x2 x3 (ix3 b n k) = (![x0, x1, x2, x3] k) (ix3 b n 0) := by
  unfold sideBySide
  fin_cases k <;> pointwise <;> rfl

/-- The distance of a regression from its target. -/
theorem v256_at (k : Fin 4) (a : Fin 4 → EReal) (q : Fin 6 → EReal) (hq : ∀ j, e3 (a := 8) (b := 20000) (c := 6) (V main_v109) b n j = q j)
    (h5 : e1 (a := 20000) (V main_v5) n = a 3 - a 1) (h10 : e1 (a := 20000) (V main_v10) n = a 2 - a 0)
    (h15 : e1 (a := 20000) (V main_v15) n = a 1 + C 1056964608#32 * (a 3 - a 1))
    (h20 : e1 (a := 20000) (V main_v20) n = a 0 + C 1056964608#32 * (a 2 - a 0)) :
    e3 (a := 8) (b := 20000) (c := 4) (after lH1 (after lH0 V) main_v256) b n k = dist (tgt a q k) (e3 (a := 8) (b := 20000) (c := 4) (V main_arg2) b n k) := by
  simp only [e1, e2, e3] at hq h5 h10 h15 h20 ⊢
  fin_cases k
  all_goals
    after_reads_at
    rw [side_at]
    simp only [Matrix.cons_val]
    after_reads_at
    try simp only [id_eq]
    try pointwise
    simp only [hq, h5, h10, h15, h20]
    first
    | rfl
    | rw [max_comm (1 : EReal)]; rfl

/-- The masked smooth distance. -/
theorem v268_at (k : Fin 4) (p : Prop) [Decidable p] (h : (V main_v111 : (⟨S8x20000, .i1⟩ : BufTy).Contents (Elt Ideal)) (ix2 b n) = bit p) :
    e3 (a := 8) (b := 20000) (c := 4) (after lI V main_v268) b n k = smooth (e3 (a := 8) (b := 20000) (c := 4) (V main_v256) b n k) * (if p then 1 else 0) := by
  simp only [e1, e2, e3] at h ⊢
  after_reads_at
  pointwise
  rw [h]
  simp only [bit, uitofp_bit]
  rfl

/-- The regression loss. -/
theorem v286_at : e1 (a := 1) (after lJ V main_v286) 0
    = Ideal.div (∑ b : Fin 8, Ideal.div (∑ n : Fin 20000, ∑ k : Fin 4, e3 (a := 8) (b := 20000) (c := 4) (V main_v268) b n k) (max (e1 (a := 8) (V main_v116) b * C 1082130432#32) 1)) (C 1090519040#32) := by
  simp only [e1, e2, e3]
  after_reads_at

/-- The instance loss. -/
theorem v278_at : e1 (a := 1) (after lJ V main_v278) 0 = Ideal.div (∑ b : Fin 8, e1 (a := 8) (V main_v207) b) (C 1090519040#32) := by
  simp only [e1, e2, e3]
  after_reads_at

/-- The class loss. -/
theorem v282_at : e1 (a := 1) (after lJ V main_v282) 0 = Ideal.div (∑ b : Fin 8, e1 (a := 8) (V main_v203) b) (C 1090519040#32) := by
  simp only [e1, e2, e3]
  after_reads_at

end Cert.RefRun

end
-- ==== Proof.Ref.Values.lean ====
/-
  The reference's three results: each is the loss of the specification, read off the arguments the program starts with.
-/
module

public import proofs.«01_k».proof.Proof.Ref.Read

@[expose] public section

set_option maxRecDepth 16384

noncomputable section

namespace Cert.RefRun

open Cert.ReferenceIdeal Cert.ReferenceIdeal.Gen Idealize.ShloMosaic Idealize.ShloMosaic.TcCoe Idealize.SL.Sem
  Idealize.ShloMosaic.StableHlo Cert.Focal

variable (V : Valuation τ sig (Elt Ideal)) (b : Fin 8) (n : Fin 20000)

/-- The anchors. -/
abbrev argA (k : Fin 4) : EReal := e3 (a := 1) (b := 20000) (c := 4) (V main_arg3) 0 n k
/-- The annotations. -/
abbrev argG (g : Fin 100) (q : Fin 6) : EReal := e3 (a := 8) (b := 100) (c := 6) (V main_arg4) b g q
/-- The instance probabilities. -/
abbrev argP : EReal := e3 (a := 8) (b := 20000) (c := 1) (V main_arg0) b n 0
/-- The class probabilities. -/
abbrev argQ (k : Fin 80) : EReal := e3 (a := 8) (b := 20000) (c := 80) (V main_arg1) b n k
/-- The regressions. -/
abbrev argR (k : Fin 4) : EReal := e3 (a := 8) (b := 20000) (c := 4) (V main_arg2) b n k

/-- The overlaps. -/
theorem iou_sB (g : Fin 100) : e3 (a := 8) (b := 20000) (c := 100) (sB V main_v100) b n g = ov (argA V n) (argG V b) g := by
  have h0 : ∀ k, e2 (a := 20000) (b := 4) (sA V main_v0) n k = argA V n k := v0_at V n
  have h1 : ∀ k, e3 (a := 8) (b := 100) (c := 6) (sA V main_arg4) b g k = argG V b g k := fun k => by
    simp only [e3, sA]
    rw [keepA _ _ (by decide)]
  refine (v100_at (sA V) b n g).trans ?_
  simp only [h0, h1]
  rfl

/-- The best overlap. -/
theorem best_sC : e2 (a := 8) (b := 20000) (sC V main_v101) b n = best (ov (argA V n) (argG V b)) := by
  simp only [sC, e2]
  rw [keepC1 _ _ (by decide)]
  exact (v101_at (sB V) b n).trans (congrArg best (funext fun g => iou_sB V b n g))

/-- The assigned annotation. -/
theorem mine_sC (q : Fin 6) : e3 (a := 8) (b := 20000) (c := 6) (sC V main_v109) b n q = mine (argA V n) (argG V b) q := by
  refine (v109_at (after lC0 (sB V)) b n (who (ov (argA V n) (argG V b))) q ?_).trans ?_
  · exact (v107_at (sB V) b n).trans (congrArg (fun u => BitVec.ofNat 32 (who u).val) (funext fun g => iou_sB V b n g))
  · simp only [e3, sB, sA]
    rw [keepC0 _ _ (by decide), keepB1 _ _ (by decide), keepB0 _ _ (by decide), keepA _ _ (by decide)]
    rfl

/-- The best overlap, one stage on. -/
theorem best_sD : e2 (a := 8) (b := 20000) (sD V main_v101) b n = best (ov (argA V n) (argG V b)) := by
  refine Eq.trans ?_ (best_sC V b n)
  simp only [sD, e2]
  rw [keepD _ _ (by decide)]

/-- The assigned annotation, one stage on. -/
theorem mine_sD (q : Fin 6) : e3 (a := 8) (b := 20000) (c := 6) (sD V main_v109) b n q = mine (argA V n) (argG V b) q := by
  refine Eq.trans ?_ (mine_sC V b n q)
  simp only [sD, e3]
  rw [keepD _ _ (by decide)]

/-- Whether the anchor is positive for the classes. -/
theorem pos_sD : (sD V main_v111 : (⟨S8x20000, .i1⟩ : BufTy).Contents (Elt Ideal)) (ix2 b n)
    = bit (C 1056964608#32 ≤ best (ov (argA V n) (argG V b))) := by
  rw [← best_sC]
  exact v111_at (sC V) b n

/-- Whether the anchor is positive for the instance loss. -/
theorem posi_sD : (sD V main_v113 : (⟨S8x20000, .i1⟩ : BufTy).Contents (Elt Ideal)) (ix2 b n)
    = bit (C 1050253722#32 ≤ best (ov (argA V n) (argG V b))) := by
  rw [← best_sC]
  exact v113_at (sC V) b n

/-- The positive anchors of an image. -/
theorem count_sD : e1 (a := 8) (sD V main_v116) b = count (argA V) (argG V) 1056964608#32 b := by
  exact (v116_at (sC V) b).trans (Finset.sum_congr rfl fun n _ => congrArg (fun x => if C 1056964608#32 ≤ x then (1 : EReal) else 0) (best_sC V b n))

/-- The positive anchors of an image for the instance loss. -/
theorem counti_sD : e1 (a := 8) (sD V main_v119) b = count (argA V) (argG V) 1050253722#32 b := by
  exact (v119_at (sC V) b).trans (Finset.sum_congr rfl fun n _ => congrArg (fun x => if C 1050253722#32 ≤ x then (1 : EReal) else 0) (best_sC V b n))

/-- The class targets. -/
theorem clsT_sE (k : Fin 80) : e3 (a := 8) (b := 20000) (c := 80) (sE V main_v132) b n k
    = clsT (best (ov (argA V n) (argG V b))) (mine (argA V n) (argG V b) 4) k := by
  simp only [sE, e3]
  rw [keepE2 _ _ (by decide)]
  rw [← best_sD, ← mine_sD]
  refine v132_at (sD V) b n k ?_
  rw [best_sD]
  exact pos_sD V b n

/-- The instance target. -/
theorem instT_sE : e3 (a := 8) (b := 20000) (c := 1) (sE V main_v147) b n 0
    = target (C 1050253722#32 ≤ best (ov (argA V n) (argG V b))) (mine (argA V n) (argG V b) 5) := by
  have hb : e2 (a := 8) (b := 20000) (after lE1 (sD V) main_v101) b n = best (ov (argA V n) (argG V b)) := by
    refine Eq.trans ?_ (best_sD V b n)
    simp only [e2]
    rw [keepE1 _ _ (by decide)]
  have hm : e3 (a := 8) (b := 20000) (c := 6) (after lE1 (sD V) main_v109) b n 5 = mine (argA V n) (argG V b) 5 := by
    refine Eq.trans ?_ (mine_sD V b n 5)
    simp only [e3]
    rw [keepE1 _ _ (by decide)]
  simp only [sE]
  refine (v147_at (after lE1 (sD V)) b n ?_).trans ?_
  · rw [keepE1 _ _ (by decide)]
    simp only [hb]
    exact posi_sD V b n
  · simp only [hb, hm]

/-- A class's loss. -/
theorem cls_sF (k : Fin 80) : e3 (a := 8) (b := 20000) (c := 80) (sF V main_v195) b n k
    = clsR1 (clsT (best (ov (argA V n) (argG V b))) (mine (argA V n) (argG V b) 4) k) (argQ V b n k) := by
  simp only [sF, e3]
  rw [keepF2 _ _ (by decide)]
  refine v195_at (sE V) b n k _ _ (clsT_sE V b n k) ?_
  simp only [sE, sD, sC, sB, e3]
  rw [keepE2 _ _ (by decide), keepE1 _ _ (by decide), keepD _ _ (by decide), keepC1 _ _ (by decide), keepC0 _ _ (by decide), keepB1 _ _ (by decide), keepB0 _ _ (by decide)]
  exact v22_at V b n k

/-- The anchor's instance loss. -/
theorem inst_sF : e3 (a := 8) (b := 20000) (c := 1) (sF V main_v199) b n 0 = rowI (argP V b n) (argA V n) (argG V b) := by
  refine v199_at (sE V) b n _ _ (instT_sE V b n) ?_
  simp only [sE, sD, sC, sB, e3]
  rw [keepE2 _ _ (by decide), keepE1 _ _ (by decide), keepD _ _ (by decide), keepC1 _ _ (by decide), keepC0 _ _ (by decide), keepB1 _ _ (by decide), keepB0 _ _ (by decide)]
  exact v21_at V b n

/-- The counts, up to the image losses. -/
theorem count_sF : e1 (a := 8) (sF V main_v116) b = count (argA V) (argG V) 1056964608#32 b := by
  refine Eq.trans ?_ (count_sD V b)
  simp only [sF, sE, e1]
  rw [keepF2 _ _ (by decide), keepF1 _ _ (by decide), keepF0 _ _ (by decide), keepE2 _ _ (by decide), keepE1 _ _ (by decide)]

/-- The counts for the instance loss, up to the image losses. -/
theorem counti_sF : e1 (a := 8) (sF V main_v119) b = count (argA V) (argG V) 1050253722#32 b := by
  refine Eq.trans ?_ (counti_sD V b)
  simp only [sF, sE, e1]
  rw [keepF2 _ _ (by decide), keepF1 _ _ (by decide), keepF0 _ _ (by decide), keepE2 _ _ (by decide), keepE1 _ _ (by decide)]

/-- An image's class loss. -/
theorem cl_sG : e1 (a := 8) (sG V main_v203) b
    = Ideal.div (∑ n, rowC (argQ V b n) (argA V n) (argG V b)) (max (count (argA V) (argG V) 1056964608#32 b) 1) := by
  refine (v203_at (sF V) b).trans (congrArg₂ (fun x y => Ideal.div x (max y 1)) ?_ (count_sF V b))
  exact Finset.sum_congr rfl fun n _ => Finset.sum_congr rfl fun k _ => cls_sF V b n k

/-- An image's instance loss. -/
theorem il_sG : e1 (a := 8) (sG V main_v207) b
    = Ideal.div (∑ n, rowI (argP V b n) (argA V n) (argG V b)) (max (count (argA V) (argG V) 1050253722#32 b) 1) := by
  refine (v207_at (sF V) b).trans (congrArg₂ (fun x y => Ideal.div x (max y 1)) ?_ (counti_sF V b))
  exact Finset.sum_congr rfl fun n _ => inst_sF V b n

/-- The distance of a regression from its target. -/
theorem dist_sH (k : Fin 4) : e3 (a := 8) (b := 20000) (c := 4) (sH V main_v256) b n k
    = dist (tgt (argA V n) (mine (argA V n) (argG V b)) k) (argR V b n k) := by
  have hr : e3 (a := 8) (b := 20000) (c := 4) (sG V main_arg2) b n k = argR V b n k := by
    simp only [sG, sF, sE, sD, sC, sB, sA, e3]
    rw [keepG _ _ (by decide), keepF2 _ _ (by decide), keepF1 _ _ (by decide), keepF0 _ _ (by decide), keepE2 _ _ (by decide), keepE1 _ _ (by decide), keepD _ _ (by decide), keepC1 _ _ (by decide), keepC0 _ _ (by decide), keepB1 _ _ (by decide), keepB0 _ _ (by decide), keepA _ _ (by decide)]
  rw [← hr]
  refine v256_at (sG V) b n k _ _ (fun j => ?_) ?_ ?_ ?_ ?_
  · refine Eq.trans ?_ (mine_sD V b n j)
    simp only [sG, sF, sE, e3]
    rw [keepG _ _ (by decide), keepF2 _ _ (by decide), keepF1 _ _ (by decide), keepF0 _ _ (by decide), keepE2 _ _ (by decide), keepE1 _ _ (by decide)]
  · refine Eq.trans ?_ (v5_at V n)
    simp only [sG, sF, sE, sD, sC, sB, e1]
    rw [keepG _ _ (by decide), keepF2 _ _ (by decide), keepF1 _ _ (by decide), keepF0 _ _ (by decide), keepE2 _ _ (by decide), keepE1 _ _ (by decide), keepD _ _ (by decide), keepC1 _ _ (by decide), keepC0 _ _ (by decide), keepB1 _ _ (by decide), keepB0 _ _ (by decide)]
  · refine Eq.trans ?_ (v10_at V n)
    simp only [sG, sF, sE, sD, sC, sB, e1]
    rw [keepG _ _ (by decide), keepF2 _ _ (by decide), keepF1 _ _ (by decide), keepF0 _ _ (by decide), keepE2 _ _ (by decide), keepE1 _ _ (by decide), keepD _ _ (by decide), keepC1 _ _ (by decide), keepC0 _ _ (by decide), keepB1 _ _ (by decide), keepB0 _ _ (by decide)]
  · refine Eq.trans ?_ (v15_at V n)
    simp only [sG, sF, sE, sD, sC, sB, e1]
    rw [keepG _ _ (by decide), keepF2 _ _ (by decide), keepF1 _ _ (by decide), keepF0 _ _ (by decide), keepE2 _ _ (by decide), keepE1 _ _ (by decide), keepD _ _ (by decide), keepC1 _ _ (by decide), keepC0 _ _ (by decide), keepB1 _ _ (by decide), keepB0 _ _ (by decide)]
  · refine Eq.trans ?_ (v20_at V n)
    simp only [sG, sF, sE, sD, sC, sB, e1]
    rw [keepG _ _ (by decide), keepF2 _ _ (by decide), keepF1 _ _ (by decide), keepF0 _ _ (by decide), keepE2 _ _ (by decide), keepE1 _ _ (by decide), keepD _ _ (by decide), keepC1 _ _ (by decide), keepC0 _ _ (by decide), keepB1 _ _ (by decide), keepB0 _ _ (by decide)]

/-- One term of the regression loss. -/
theorem term_sI (k : Fin 4) : e3 (a := 8) (b := 20000) (c := 4) (sI V main_v268) b n k = term (argR V b n) (argA V n) (argG V b) k := by
  refine (v268_at (sH V) b n k (C 1056964608#32 ≤ best (ov (argA V n) (argG V b))) ?_).trans ?_
  · refine Eq.trans ?_ (pos_sD V b n)
    simp only [sH, sG, sF, sE]
    rw [keepH1 _ _ (by decide), keepH0 _ _ (by decide), keepG _ _ (by decide), keepF2 _ _ (by decide), keepF1 _ _ (by decide), keepF0 _ _ (by decide), keepE2 _ _ (by decide), keepE1 _ _ (by decide)]
  · rw [dist_sH]
    rfl

/-- The reference's instance loss. -/
theorem ref_lossI : e1 (a := 1) (after ops V main_v278) 0 = lossI (argP V) (argA V) (argG V) := by
  rw [after_ops]
  refine (v278_at (sI V)).trans (congrArg (fun x => Ideal.div x (C 1090519040#32)) (Finset.sum_congr rfl fun b _ => ?_))
  refine Eq.trans ?_ (il_sG V b)
  simp only [sI, sH, e1]
  rw [keepI _ _ (by decide), keepH1 _ _ (by decide), keepH0 _ _ (by decide)]

/-- The reference's class loss. -/
theorem ref_lossC : e1 (a := 1) (after ops V main_v282) 0 = lossC (argQ V) (argA V) (argG V) := by
  rw [after_ops]
  refine (v282_at (sI V)).trans (congrArg (fun x => Ideal.div x (C 1090519040#32)) (Finset.sum_congr rfl fun b _ => ?_))
  refine Eq.trans ?_ (cl_sG V b)
  simp only [sI, sH, e1]
  rw [keepI _ _ (by decide), keepH1 _ _ (by decide), keepH0 _ _ (by decide)]

/-- The reference's regression loss. -/
theorem ref_lossR : e1 (a := 1) (after ops V main_v286) 0 = lossR (argR V) (argA V) (argG V) := by
  rw [after_ops]
  refine (v286_at (sI V)).trans (congrArg (fun x => Ideal.div x (C 1090519040#32)) (Finset.sum_congr rfl fun b _ => ?_))
  refine congrArg₂ (fun x y => Ideal.div x (max (y * C 1082130432#32) 1)) ?_ ?_
  · exact Finset.sum_congr rfl fun n _ => Finset.sum_congr rfl fun k _ => term_sI V b n k
  · refine Eq.trans ?_ (count_sF V b)
    simp only [sI, sH, sG, e1]
    rw [keepI _ _ (by decide), keepH1 _ _ (by decide), keepH0 _ _ (by decide), keepG _ _ (by decide)]

end Cert.RefRun

end
-- ==== Proof.Ref.Results.lean ====
/-
  The reference's run: its three results are the specification's losses of its arguments, which it leaves as they were.
-/
module

public import proofs.«01_k».proof.Proof.Ref.Values
public import Idealize.ShloMosaic.Lib.Claim

@[expose] public section

noncomputable section

namespace Cert.RefRun

open Idealize.ShloMosaic Idealize.ShloMosaic.TcCoe Idealize.SL.Sem Idealize.ShloMosaic.StableHlo
open Cert.ReferenceIdeal Cert.ReferenceIdeal.Gen Cert.Focal

variable (m : (ℓ : Loc nD τ sig) → Buf (Elt Ideal) ℓ) (ρ : Dev nD → PrngReg)

/-- The reference's instance loss, whole. -/
theorem res_il (V : Valuation τ sig (Elt Ideal)) :
    after ops V (Proc.devRef .tc main_v278) = (fun _ => lossI (argP V) (argA V) (argG V) : Vec Ideal S1 .f32) := by
  have h : ∀ j : Shape.Idx S1, j = ix1 0 := fun j => by idx_ext
  exact funext fun j => (congrArg _ (h j)).trans (ref_lossI V)
/-- The reference's class loss, whole. -/
theorem res_cl (V : Valuation τ sig (Elt Ideal)) :
    after ops V (Proc.devRef .tc main_v282) = (fun _ => lossC (argQ V) (argA V) (argG V) : Vec Ideal S1 .f32) := by
  have h : ∀ j : Shape.Idx S1, j = ix1 0 := fun j => by idx_ext
  exact funext fun j => (congrArg _ (h j)).trans (ref_lossC V)
/-- The reference's regression loss, whole. -/
theorem res_rl (V : Valuation τ sig (Elt Ideal)) :
    after ops V (Proc.devRef .tc main_v286) = (fun _ => lossR (argR V) (argA V) (argG V) : Vec Ideal S1 .f32) := by
  have h : ∀ j : Shape.Idx S1, j = ix1 0 := fun j => by idx_ext
  exact funext fun j => (congrArg _ (h j)).trans (ref_lossR V)

/-- The reference runs to the end with the three losses of its arguments in its results and its arguments unchanged. -/
theorem results : θ_run defs (onTc (τ := τ) (main (F := Ideal))) ⟨m, fun _ => 0, ρ⟩ (fun r => ∀ c : Dev nD,
      r.2.mem ((c.tc : Thread nD τ).loc main_v278) = (fun _ => lossI (argP (launchContents m c)) (argA (launchContents m c)) (argG (launchContents m c)) : Vec Ideal S1 .f32)
      ∧ r.2.mem ((c.tc : Thread nD τ).loc main_v282) = (fun _ => lossC (argQ (launchContents m c)) (argA (launchContents m c)) (argG (launchContents m c)) : Vec Ideal S1 .f32)
      ∧ r.2.mem ((c.tc : Thread nD τ).loc main_v286) = (fun _ => lossR (argR (launchContents m c)) (argA (launchContents m c)) (argG (launchContents m c)) : Vec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h.1 c main_v278).trans (res_il _), (h.1 c main_v282).trans (res_cl _), (h.1 c main_v286).trans (res_rl _), h.2.1 c⟩)
    (θ_run_and (run m ρ) (frame m ρ))

end Cert.RefRun

end
-- ==== Proof.Kern.Block.lean ====
/-
  What the kernel computes for one image and one block of 2500 anchors, as functions of the blocks it loads, stage by
  stage.
-/
module

public import proofs.«01_k».proof.Proof.Gen.KernelIdeal.Frame

@[expose] public section

noncomputable section

namespace Cert.Block

open Idealize.ShloMosaic Idealize.ShloMosaic.TcCoe
open Cert.KernelIdeal Cert.KernelIdeal.Gen

variable {F : FTy → Type} [FloatOps F]

/-- Overlap of each annotation (row) with each of the 2500 anchors (column). -/
def iouB (a : FVec F S4x2500 .f32) (g : FVec F S100x6 .f32) : FVec F S100x2500 .f32 :=
  let v12 : FVec F S1x2500 .f32 := extractStridedSlice S1x2500 ![0, 0] a slices_S4x2500_o0_0_S1x2500
  let v13 : FVec F S1x2500 .f32 := extractStridedSlice S1x2500 ![1, 0] a slices_S4x2500_o1_0_S1x2500
  let v14 : FVec F S1x2500 .f32 := extractStridedSlice S1x2500 ![2, 0] a slices_S4x2500_o2_0_S1x2500
  let v15 : FVec F S1x2500 .f32 := extractStridedSlice S1x2500 ![3, 0] a slices_S4x2500_o3_0_S1x2500
  let v16 : FVec F S1x2500 .f32 := subf v14 v12
  let v17 : FVec F S1x2500 .f32 := subf v15 v13
  let v18 : FVec F S1x2500 .f32 := mulf v16 v17
  let v19 : FVec F S100x1 .f32 := extractStridedSlice S100x1 ![0, 0] g slices_S100x6_o0_0_S100x1
  let v20 : FVec F S100x1 .f32 := extractStridedSlice S100x1 ![0, 1] g slices_S100x6_o0_1_S100x1
  let v21 : FVec F S100x1 .f32 := extractStridedSlice S100x1 ![0, 2] g slices_S100x6_o0_2_S100x1
  let v22 : FVec F S100x1 .f32 := extractStridedSlice S100x1 ![0, 3] g slices_S100x6_o0_3_S100x1
  let v23 : FVec F S100x1 .f32 := subf v21 v19
  let v24 : FVec F S100x1 .f32 := subf v22 v20
  let v25 : FVec F S100x1 .f32 := mulf v23 v24
  let v26 : FVec F S100x2500 .f32 := broadcastTo S100x2500 v15 broadcasts_S1x2500_S100x2500
  let v27 : FVec F S100x2500 .f32 := broadcastTo S100x2500 v21 broadcasts_S100x1_S100x2500
  let v28 : FVec F S100x2500 .f32 := minimumf v26 v27
  let v29 : FVec F S100x2500 .f32 := broadcastTo S100x2500 v13 broadcasts_S1x2500_S100x2500
  let v30 : FVec F S100x2500 .f32 := broadcastTo S100x2500 v19 broadcasts_S100x1_S100x2500
  let v31 : FVec F S100x2500 .f32 := maximumf v29 v30
  let v32 : FVec F S100x2500 .f32 := subf v28 v31
  let v33 : FVec F S100x2500 .f32 := broadcastTo S100x2500 v14 broadcasts_S1x2500_S100x2500
  let v34 : FVec F S100x2500 .f32 := broadcastTo S100x2500 v22 broadcasts_S100x1_S100x2500
  let v35 : FVec F S100x2500 .f32 := minimumf v33 v34
  let v36 : FVec F S100x2500 .f32 := broadcastTo S100x2500 v12 broadcasts_S1x2500_S100x2500
  let v37 : FVec F S100x2500 .f32 := broadcastTo S100x2500 v20 broadcasts_S100x1_S100x2500
  let v38 : FVec F S100x2500 .f32 := maximumf v36 v37
  let v39 : FVec F S100x2500 .f32 := subf v35 v38
  let v40 : FVec F S100x2500 .f32 := broadcast S100x2500 (Scalar.ofBits .f32 0x00000000#32)
  let v41 : FVec F S100x2500 .f32 := maximumf v32 v40
  let v42 : FVec F S100x2500 .f32 := broadcast S100x2500 (Scalar.ofBits .f32 0x00000000#32)
  let v43 : FVec F S100x2500 .f32 := maximumf v39 v42
  let v44 : FVec F S100x2500 .f32 := mulf v41 v43
  let v45 : FVec F S100x2500 .f32 := broadcastTo S100x2500 v18 broadcasts_S1x2500_S100x2500
  let v46 : FVec F S100x2500 .f32 := broadcastTo S100x2500 v25 broadcasts_S100x1_S100x2500
  let v47 : FVec F S100x2500 .f32 := addf v45 v46
  let v48 : FVec F S100x2500 .f32 := subf v47 v44
  let v49 : FVec F S100x2500 .f32 := broadcast S100x2500 (Scalar.ofBits .f32 0x322BCC77#32)
  let v50 : FVec F S100x2500 .f32 := maximumf v48 v49
  divf v44 v50

/-- Best overlap of each anchor. -/
def bestB (u : FVec F S100x2500 .f32) : FVec F S1x2500 .f32 :=
  let v52 : FVec F S2500 .f32 := multiReduction .maximumf [0] S2500 u 0xFF800000#32 reduces_S100x2500_S2500 (.inl rfl) rfl
  shapeCast S1x2500 v52 shapeCasts_S2500_S1x2500

/-- One at the first annotation that attains the best overlap, zero elsewhere. -/
def oneB (u : FVec F S100x2500 .f32) (best : FVec F S1x2500 .f32) : FVec F S100x2500 .f32 :=
  let v54 : IVec S100x2500 32 := iota .tc S100x2500 32 [0] iota_S100x2500_d0_w32
  let v55 : FVec F S100x2500 .f32 := broadcastTo S100x2500 best broadcasts_S1x2500_S100x2500
  let v56 : IVec S100x2500 1 := cmpf .oeq u v55
  let v57 : IVec S100x2500 32 := broadcast S100x2500 100#32
  let v58 : IVec S100x2500 32 := select v56 v54 v57
  let v59 : IVec S2500 32 := multiReductionI .minsi [0] S2500 v58 2147483647#32 reduces_S100x2500_S2500 rfl
  let v60 : IVec S1x2500 32 := shapeCast S1x2500 v59 shapeCasts_S2500_S1x2500
  let v61 : IVec S100x2500 32 := broadcastTo S100x2500 v60 broadcasts_S1x2500_S100x2500
  let v62 : IVec S100x2500 1 := cmpi .eq v54 v61
  let v63 : IVec S100x2500 32 := extui 32 v62 natLt_1_32
  sitofp .f32 v63

/-- The six numbers of the assigned annotation, one column for each anchor. -/
def asgB (gt : FVec F S6x100 .f32) (one : FVec F S100x2500 .f32) : FVec F S6x2500 .f32 :=
  matmul dot_S6x100_S100x2500_S6x2500_1_0_0_1_n_n none gt one (constant S6x2500 .f32 0x00000000#32)

/-- One at an anchor whose best overlap makes it positive. -/
def posB (best : FVec F S1x2500 .f32) : FVec F S1x2500 .f32 :=
  let v66 : FVec F S1x2500 .f32 := broadcast S1x2500 (Scalar.ofBits .f32 0x3F000000#32)
  let v67 : IVec S1x2500 1 := cmpf .oge best v66
  let v70 : IVec S1x2500 32 := extui 32 v67 natLt_1_32
  sitofp .f32 v70

/-- The anchors positive for the instance loss, as bits. -/
def posiB (best : FVec F S1x2500 .f32) : IVec S1x2500 1 :=
  let v68 : FVec F S1x2500 .f32 := broadcast S1x2500 (Scalar.ofBits .f32 0x3E99999A#32)
  cmpf .oge best v68

/-- The same as zeros and ones. -/
def posifB (posi : IVec S1x2500 1) : FVec F S1x2500 .f32 :=
  let v76 : IVec S1x2500 32 := extui 32 posi natLt_1_32
  sitofp .f32 v76

/-- The sum of a row of 2500 numbers. -/
def sumB (x : FVec F S1x2500 .f32) : F .f32 :=
  let v72 : FVec F S1x1x2500 .f32 := shapeCast S1x1x2500 x shapeCasts_S1x2500_S1x1x2500
  let v73 : FVec F S1 .f32 := multiReduction .add [1, 2] S1 v72 0x00000000#32 reduces_S1x1x2500_S1 (.inl rfl) rfl
  let v74 : FVec F S1x1x1 .f32 := shapeCast S1x1x1 v73 shapeCasts_S1_S1x1x1
  extractAt ![0, 0, 0] v74 inpos_S1x1x1_p0_0_0

/-- Instance loss of each anchor. -/
def instB (q : FVec F S1x2500 .f32) (asg : FVec F S6x2500 .f32) (posi : IVec S1x2500 1) : FVec F S1x2500 .f32 :=
  let v82 : FVec F S1x2500 .f32 := broadcast S1x2500 (Scalar.ofBits .f32 0x38D1B717#32)
  let v83 : FVec F S1x2500 .f32 := maximumf v82 q
  let v84 : FVec F S1x2500 .f32 := broadcast S1x2500 (Scalar.ofBits .f32 0x3F7FF972#32)
  let v85 : FVec F S1x2500 .f32 := minimumf v84 v83
  let v86 : FVec F S1x2500 .f32 := extractStridedSlice S1x2500 ![5, 0] asg slices_S6x2500_o5_0_S1x2500
  let v87 : FVec F S1x2500 .f32 := broadcast S1x2500 (Scalar.ofBits .f32 0x3F800000#32)
  let v88 : IVec S1x2500 1 := cmpf .oeq v86 v87
  let v89 : IVec S1x2500 1 := andi posi v88
  let v90 : FVec F S1x2500 .f32 := broadcast S1x2500 (Scalar.ofBits .f32 0x00000000#32)
  let v91 : IVec S1x2500 1 := cmpf .oeq v86 v90
  let v92 : IVec S1x2500 1 := andi posi v91
  let v93 : FVec F S1x2500 .f32 := broadcast S1x2500 (Scalar.ofBits .f32 0x00000000#32)
  let v94 : FVec F S1x2500 .f32 := broadcast S1x2500 (Scalar.ofBits .f32 0xBF800000#32)
  let v95 : FVec F S1x2500 .f32 := select v92 v93 v94
  let v96 : FVec F S1x2500 .f32 := broadcast S1x2500 (Scalar.ofBits .f32 0x3F800000#32)
  let v97 : FVec F S1x2500 .f32 := select v89 v96 v95
  let v98 : FVec F S1x2500 .f32 := broadcast S1x2500 (Scalar.ofBits .f32 0x3F800000#32)
  let v99 : IVec S1x2500 1 := cmpf .oeq v97 v98
  let v100 : FVec F S1x2500 .f32 := broadcast S1x2500 (Scalar.ofBits .f32 0x3F800000#32)
  let v101 : FVec F S1x2500 .f32 := subf v100 v85
  let v102 : FVec F S1x2500 .f32 := select v99 v101 v85
  let v103 : FVec F S1x2500 .f32 := broadcast S1x2500 (Scalar.ofBits .f32 0xBF800000#32)
  let v104 : IVec S1x2500 1 := cmpf .one v97 v103
  let v105 : FVec F S1x2500 .f32 := mulf v102 v102
  let v106 : FVec F S1x2500 .f32 := broadcast S1x2500 (Scalar.ofBits .f32 0x3F000000#32)
  let v107 : FVec F S1x2500 .f32 := mulf v106 v105
  let v108 : FVec F S1x2500 .f32 := broadcast S1x2500 (Scalar.ofBits .f32 0x3F800000#32)
  let v109 : FVec F S1x2500 .f32 := subf v108 v102
  let v110 : FVec F S1x2500 .f32 := log v109
  let v111 : FVec F S1x2500 .f32 := broadcast S1x2500 (Scalar.ofBits .f32 0x00000000#32)
  let v112 : FVec F S1x2500 .f32 := subf v111 v110
  let v113 : FVec F S1x2500 .f32 := mulf v107 v112
  let v114 : FVec F S1x2500 .f32 := broadcast S1x2500 (Scalar.ofBits .f32 0x00000000#32)
  select v104 v113 v114

/-- Regression target of each anchor: vertical centre. -/
def dyB (a : FVec F S4x2500 .f32) (asg : FVec F S6x2500 .f32) : FVec F S1x2500 .f32 :=
  let v12 : FVec F S1x2500 .f32 := extractStridedSlice S1x2500 ![0, 0] a slices_S4x2500_o0_0_S1x2500
  let v14 : FVec F S1x2500 .f32 := extractStridedSlice S1x2500 ![2, 0] a slices_S4x2500_o2_0_S1x2500
  let v121 : FVec F S1x2500 .f32 := subf v14 v12
  let v125 : FVec F S1x2500 .f32 := broadcast S1x2500 (Scalar.ofBits .f32 0x3F000000#32)
  let v126 : FVec F S1x2500 .f32 := mulf v125 v121
  let v127 : FVec F S1x2500 .f32 := addf v12 v126
  let v129 : FVec F S1x2500 .f32 := extractStridedSlice S1x2500 ![1, 0] asg slices_S6x2500_o1_0_S1x2500
  let v131 : FVec F S1x2500 .f32 := extractStridedSlice S1x2500 ![3, 0] asg slices_S6x2500_o3_0_S1x2500
  let v142 : FVec F S1x2500 .f32 := subf v131 v129
  let v143 : FVec F S1x2500 .f32 := broadcast S1x2500 (Scalar.ofBits .f32 0x3F000000#32)
  let v144 : FVec F S1x2500 .f32 := mulf v143 v142
  let v145 : FVec F S1x2500 .f32 := addf v129 v144
  let v148 : FVec F S1x2500 .f32 := subf v145 v127
  divf v148 v121

/-- Regression target of each anchor: horizontal centre. -/
def dxB (a : FVec F S4x2500 .f32) (asg : FVec F S6x2500 .f32) : FVec F S1x2500 .f32 :=
  let v13 : FVec F S1x2500 .f32 := extractStridedSlice S1x2500 ![1, 0] a slices_S4x2500_o1_0_S1x2500
  let v15 : FVec F S1x2500 .f32 := extractStridedSlice S1x2500 ![3, 0] a slices_S4x2500_o3_0_S1x2500
  let v120 : FVec F S1x2500 .f32 := subf v15 v13
  let v122 : FVec F S1x2500 .f32 := broadcast S1x2500 (Scalar.ofBits .f32 0x3F000000#32)
  let v123 : FVec F S1x2500 .f32 := mulf v122 v120
  let v124 : FVec F S1x2500 .f32 := addf v13 v123
  let v128 : FVec F S1x2500 .f32 := extractStridedSlice S1x2500 ![0, 0] asg slices_S6x2500_o0_0_S1x2500
  let v130 : FVec F S1x2500 .f32 := extractStridedSlice S1x2500 ![2, 0] asg slices_S6x2500_o2_0_S1x2500
  let v138 : FVec F S1x2500 .f32 := subf v130 v128
  let v139 : FVec F S1x2500 .f32 := broadcast S1x2500 (Scalar.ofBits .f32 0x3F000000#32)
  let v140 : FVec F S1x2500 .f32 := mulf v139 v138
  let v141 : FVec F S1x2500 .f32 := addf v128 v140
  let v146 : FVec F S1x2500 .f32 := subf v141 v124
  divf v146 v120

/-- Regression target of each anchor: height. -/
def dhB (a : FVec F S4x2500 .f32) (asg : FVec F S6x2500 .f32) : FVec F S1x2500 .f32 :=
  let v12 : FVec F S1x2500 .f32 := extractStridedSlice S1x2500 ![0, 0] a slices_S4x2500_o0_0_S1x2500
  let v14 : FVec F S1x2500 .f32 := extractStridedSlice S1x2500 ![2, 0] a slices_S4x2500_o2_0_S1x2500
  let v121 : FVec F S1x2500 .f32 := subf v14 v12
  let v129 : FVec F S1x2500 .f32 := extractStridedSlice S1x2500 ![1, 0] asg slices_S6x2500_o1_0_S1x2500
  let v131 : FVec F S1x2500 .f32 := extractStridedSlice S1x2500 ![3, 0] asg slices_S6x2500_o3_0_S1x2500
  let v135 : FVec F S1x2500 .f32 := subf v131 v129
  let v136 : FVec F S1x2500 .f32 := broadcast S1x2500 (Scalar.ofBits .f32 0x3F800000#32)
  let v137 : FVec F S1x2500 .f32 := maximumf v135 v136
  let v152 : FVec F S1x2500 .f32 := divf v137 v121
  log v152

/-- Regression target of each anchor: width. -/
def dwB (a : FVec F S4x2500 .f32) (asg : FVec F S6x2500 .f32) : FVec F S1x2500 .f32 :=
  let v13 : FVec F S1x2500 .f32 := extractStridedSlice S1x2500 ![1, 0] a slices_S4x2500_o1_0_S1x2500
  let v15 : FVec F S1x2500 .f32 := extractStridedSlice S1x2500 ![3, 0] a slices_S4x2500_o3_0_S1x2500
  let v120 : FVec F S1x2500 .f32 := subf v15 v13
  let v128 : FVec F S1x2500 .f32 := extractStridedSlice S1x2500 ![0, 0] asg slices_S6x2500_o0_0_S1x2500
  let v130 : FVec F S1x2500 .f32 := extractStridedSlice S1x2500 ![2, 0] asg slices_S6x2500_o2_0_S1x2500
  let v132 : FVec F S1x2500 .f32 := subf v130 v128
  let v133 : FVec F S1x2500 .f32 := broadcast S1x2500 (Scalar.ofBits .f32 0x3F800000#32)
  let v134 : FVec F S1x2500 .f32 := maximumf v132 v133
  let v150 : FVec F S1x2500 .f32 := divf v134 v120
  log v150

/-- The smooth distance of a row of targets from a row of predictions, over the positive anchors. -/
def regB (t x pos : FVec F S1x2500 .f32) : FVec F S1x2500 .f32 :=
  let v155 : FVec F S1x2500 .f32 := subf t x
  let v156 : FVec F S1x2500 .f32 := absf v155
  let v157 : FVec F S1x2500 .f32 := broadcast S1x2500 (Scalar.ofBits .f32 0x3DE38E39#32)
  let v158 : IVec S1x2500 1 := cmpf .ole v156 v157
  let v159 : FVec F S1x2500 .f32 := broadcast S1x2500 (Scalar.ofBits .f32 0x40900000#32)
  let v160 : FVec F S1x2500 .f32 := mulf v159 v156
  let v161 : FVec F S1x2500 .f32 := mulf v160 v156
  let v162 : FVec F S1x2500 .f32 := broadcast S1x2500 (Scalar.ofBits .f32 0x3D638E39#32)
  let v163 : FVec F S1x2500 .f32 := subf v156 v162
  let v164 : FVec F S1x2500 .f32 := select v158 v161 v163
  mulf v164 pos

/-- The regression loss of one image over 2500 anchors. -/
def rlB (a : FVec F S4x2500 .f32) (r : FVec F S4x2500 .f32) (asg : FVec F S6x2500 .f32) (pos : FVec F S1x2500 .f32) : F .f32 :=
  Scalar.addf (Scalar.addf (Scalar.addf (Scalar.addf (Scalar.ofBits .f32 0x00000000#32)
    (sumB (regB (dyB a asg) (extractStridedSlice S1x2500 ![0, 0] r slices_S4x2500_o0_0_S1x2500) pos)))
    (sumB (regB (dxB a asg) (extractStridedSlice S1x2500 ![1, 0] r slices_S4x2500_o1_0_S1x2500) pos)))
    (sumB (regB (dhB a asg) (extractStridedSlice S1x2500 ![2, 0] r slices_S4x2500_o2_0_S1x2500) pos)))
    (sumB (regB (dwB a asg) (extractStridedSlice S1x2500 ![3, 0] r slices_S4x2500_o3_0_S1x2500) pos))

/-- The class probabilities kept away from zero and one. -/
def clipB (p : FVec F S2500x80 .f32) : FVec F S2500x80 .f32 :=
  let v222 : FVec F S2500x80 .f32 := broadcast S2500x80 (Scalar.ofBits .f32 0x38D1B717#32)
  let v223 : FVec F S2500x80 .f32 := maximumf v222 p
  let v224 : FVec F S2500x80 .f32 := broadcast S2500x80 (Scalar.ofBits .f32 0x3F7FF972#32)
  minimumf v224 v223

/-- One at an anchor that counts for the class loss. -/
def actB (best : FVec F S1x2500 .f32) (pos : FVec F S1x2500 .f32) : FVec F S1x2500 .f32 :=
  let v228 : FVec F S1x2500 .f32 := broadcast S1x2500 (Scalar.ofBits .f32 0x3ECCCCCD#32)
  let v229 : IVec S1x2500 1 := cmpf .olt best v228
  let v230 : IVec S1x2500 32 := extui 32 v229 natLt_1_32
  let v231 : FVec F S1x2500 .f32 := sitofp .f32 v230
  maximumf pos v231

/-- Class loss of each anchor as if no class were its own, summed over the classes. -/
def l0B (c : FVec F S2500x80 .f32) : FVec F S2500x1 .f32 :=
  let v233 : FVec F S2500x80 .f32 := mulf c c
  let v234 : FVec F S2500x80 .f32 := broadcast S2500x80 (Scalar.ofBits .f32 0x3F400000#32)
  let v235 : FVec F S2500x80 .f32 := mulf v234 v233
  let v236 : FVec F S2500x80 .f32 := broadcast S2500x80 (Scalar.ofBits .f32 0x3F800000#32)
  let v237 : FVec F S2500x80 .f32 := subf v236 c
  let v238 : FVec F S2500x80 .f32 := log v237
  let v239 : FVec F S2500x80 .f32 := broadcast S2500x80 (Scalar.ofBits .f32 0x00000000#32)
  let v240 : FVec F S2500x80 .f32 := subf v239 v238
  let v241 : FVec F S2500x80 .f32 := mulf v235 v240
  let v248 : FVec F S80x1 .f32 := broadcast S80x1 (Scalar.ofBits .f32 0x3F800000#32)
  matmul dot_S2500x80_S80x1_S2500x1_1_0_0_1_n_n none v241 v248 (constant S2500x1 .f32 0x00000000#32)

/-- The probability of the anchor's own class. -/
def ownB (c : FVec F S2500x80 .f32) (asg : FVec F S6x2500 .f32) : FVec F S2500x1 .f32 :=
  let v226 : FVec F S1x2500 .f32 := extractStridedSlice S1x2500 ![4, 0] asg slices_S6x2500_o4_0_S1x2500
  let v227 : IVec S1x2500 32 := fptosi 32 v226
  let v242 : IVec S2500x1 32 := shapeCast S2500x1 v227 shapeCasts_S1x2500_S2500x1
  let v243 : IVec S2500x80 32 := iota .tc S2500x80 32 [1] iota_S2500x80_d1_w32
  let v244 : IVec S2500x80 32 := broadcastTo S2500x80 v242 broadcasts_S2500x1_S2500x80
  let v245 : IVec S2500x80 1 := cmpi .eq v243 v244
  let v246 : FVec F S2500x80 .f32 := broadcast S2500x80 (Scalar.ofBits .f32 0x00000000#32)
  let v247 : FVec F S2500x80 .f32 := select v245 c v246
  let v248 : FVec F S80x1 .f32 := broadcast S80x1 (Scalar.ofBits .f32 0x3F800000#32)
  matmul dot_S2500x80_S80x1_S2500x1_1_0_0_1_n_n none v247 v248 (constant S2500x1 .f32 0x00000000#32)

/-- What the anchor's own class changes in its class loss. -/
def corrB (x : FVec F S2500x1 .f32) (pos : FVec F S1x2500 .f32) : FVec F S1x2500 .f32 :=
  let v253 : FVec F S1x2500 .f32 := shapeCast S1x2500 x shapeCasts_S2500x1_S1x2500
  let v254 : FVec F S1x2500 .f32 := broadcast S1x2500 (Scalar.ofBits .f32 0x38D1B717#32)
  let v255 : FVec F S1x2500 .f32 := maximumf v253 v254
  let v256 : FVec F S1x2500 .f32 := broadcast S1x2500 (Scalar.ofBits .f32 0x3F800000#32)
  let v257 : FVec F S1x2500 .f32 := subf v256 v255
  let v258 : FVec F S1x2500 .f32 := broadcast S1x2500 (Scalar.ofBits .f32 0x3F800000#32)
  let v259 : FVec F S1x2500 .f32 := subf v258 v255
  let v260 : FVec F S1x2500 .f32 := mulf v257 v259
  let v261 : FVec F S1x2500 .f32 := broadcast S1x2500 (Scalar.ofBits .f32 0x3E800000#32)
  let v262 : FVec F S1x2500 .f32 := mulf v261 v260
  let v263 : FVec F S1x2500 .f32 := log v255
  let v264 : FVec F S1x2500 .f32 := broadcast S1x2500 (Scalar.ofBits .f32 0x00000000#32)
  let v265 : FVec F S1x2500 .f32 := subf v264 v263
  let v266 : FVec F S1x2500 .f32 := mulf v262 v265
  let v267 : FVec F S1x2500 .f32 := mulf v255 v255
  let v268 : FVec F S1x2500 .f32 := broadcast S1x2500 (Scalar.ofBits .f32 0x3F400000#32)
  let v269 : FVec F S1x2500 .f32 := mulf v268 v267
  let v270 : FVec F S1x2500 .f32 := broadcast S1x2500 (Scalar.ofBits .f32 0x3F800000#32)
  let v271 : FVec F S1x2500 .f32 := subf v270 v255
  let v272 : FVec F S1x2500 .f32 := log v271
  let v273 : FVec F S1x2500 .f32 := broadcast S1x2500 (Scalar.ofBits .f32 0x00000000#32)
  let v274 : FVec F S1x2500 .f32 := subf v273 v272
  let v275 : FVec F S1x2500 .f32 := mulf v269 v274
  let v276 : FVec F S1x2500 .f32 := subf v266 v275
  mulf pos v276

/-- The class loss of one image over 2500 anchors. -/
def clB (c : FVec F S2500x80 .f32) (best : FVec F S1x2500 .f32) (asg : FVec F S6x2500 .f32) (pos : FVec F S1x2500 .f32) : F .f32 :=
  let v251 : FVec F S1x1 .f32 := matmul dot_S1x2500_S2500x1_S1x1_1_0_0_1_n_n none (actB best pos) (l0B c) (constant S1x1 .f32 0x00000000#32)
  Scalar.addf (extractAt ![0, 0] v251 inpos_S1x1_p0_0) (sumB (corrB (ownB c asg) pos))

/-- Block of the anchors' corners, as loaded. -/
def ldA (x : Vec F S1x1x4x2500 .f32) : FVec F S4x2500 .f32 := shapeCast S4x2500 x shapeCasts_S1x1x4x2500_S4x2500
/-- One image's block of instance probabilities, as loaded. -/
def ldQ (x : Vec F S1x1x1x2500 .f32) : FVec F S1x2500 .f32 := shapeCast S1x2500 x shapeCasts_S1x1x1x2500_S1x2500
/-- One image's block of class probabilities, as loaded. -/
def ldP (x : Vec F S1x1x2500x80 .f32) : FVec F S2500x80 .f32 := shapeCast S2500x80 x shapeCasts_S1x1x2500x80_S2500x80
/-- One image's annotations, as loaded. -/
def ldG (x : Vec F S1x100x6 .f32) : FVec F S100x6 .f32 := shapeCast S100x6 x shapeCasts_S1x100x6_S100x6
/-- One image's annotations, transposed, as loaded. -/
def ldT (x : Vec F S1x6x100 .f32) : FVec F S6x100 .f32 := shapeCast S6x100 x shapeCasts_S1x6x100_S6x100

/-- The best overlaps from the loads. -/
def bestL (x3 : Vec F S1x1x4x2500 .f32) (x4 : Vec F S1x100x6 .f32) : FVec F S1x2500 .f32 := bestB (iouB (ldA x3) (ldG x4))
/-- The assigned annotations from the loads. -/
def asgL (x3 : Vec F S1x1x4x2500 .f32) (x4 : Vec F S1x100x6 .f32) (x5 : Vec F S1x6x100 .f32) : FVec F S6x2500 .f32 :=
  asgB (ldT x5) (oneB (iouB (ldA x3) (ldG x4)) (bestL x3 x4))

/-- The instance loss of an image over a block. -/
def ilL (x0 : Vec F S1x1x1x2500 .f32) (x3 : Vec F S1x1x4x2500 .f32) (x4 : Vec F S1x100x6 .f32) (x5 : Vec F S1x6x100 .f32) : F .f32 :=
  sumB (instB (ldQ x0) (asgL x3 x4 x5) (posiB (bestL x3 x4)))
/-- The class loss of an image over a block. -/
def clL (x1 : Vec F S1x1x2500x80 .f32) (x3 : Vec F S1x1x4x2500 .f32) (x4 : Vec F S1x100x6 .f32) (x5 : Vec F S1x6x100 .f32) : F .f32 :=
  clB (clipB (ldP x1)) (bestL x3 x4) (asgL x3 x4 x5) (posB (bestL x3 x4))
/-- The regression loss of an image over a block. -/
def rlL (x2 : Vec F S1x1x4x2500 .f32) (x3 : Vec F S1x1x4x2500 .f32) (x4 : Vec F S1x100x6 .f32) (x5 : Vec F S1x6x100 .f32) : F .f32 :=
  rlB (ldA x3) (ldA x2) (asgL x3 x4 x5) (posB (bestL x3 x4))
/-- The positive anchors of an image in a block, counted. -/
def npL (x3 : Vec F S1x1x4x2500 .f32) (x4 : Vec F S1x100x6 .f32) : F .f32 := sumB (posB (bestL x3 x4))
/-- The anchors of a block positive for the instance loss, counted. -/
def npiL (x3 : Vec F S1x1x4x2500 .f32) (x4 : Vec F S1x100x6 .f32) : F .f32 := sumB (posifB (posiB (bestL x3 x4)))

/-- Eight numbers, one for each image, as an array. -/
def stack (x : Fin 8 → F .f32) : FVec F S8x1x1 .f32 :=
  shapeCast S8x1x1 (concatenate S8 0 [⟨S1, broadcast S1 (x 0)⟩, ⟨S1, broadcast S1 (x 1)⟩, ⟨S1, broadcast S1 (x 2)⟩,
    ⟨S1, broadcast S1 (x 3)⟩, ⟨S1, broadcast S1 (x 4)⟩, ⟨S1, broadcast S1 (x 5)⟩, ⟨S1, broadcast S1 (x 6)⟩,
    ⟨S1, broadcast S1 (x 7)⟩] concatenates_S1_S1_S1_S1_S1_S1_S1_S1_S8_d0) shapeCasts_S8_S8x1x1

end Cert.Block

end
-- ==== Proof.Kern.Match.lean ====
/-
  What the kernel's body leaves in its five outputs, in terms of the one-image functions: at the first grid point the
  stack of the eight images' numbers, at a later point the same added to what the point before left.
-/
module

public import proofs.«01_k».proof.Proof.Kern.Block
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen

/-- Image `i`'s instance probabilities in a block. -/
def im0 {F : FTy → Type} (w : Vec F S8x1x1x2500 .f32) (i : Fin 8) : Vec F S1x1x1x2500 .f32 :=
  View.ld w (Rect.unit ![i, 0, 0, 0] S1x1x1x2500.size (by revert i; decide))
/-- Image `i`'s class probabilities in a block. -/
def im1 {F : FTy → Type} (w : Vec F S8x1x2500x80 .f32) (i : Fin 8) : Vec F S1x1x2500x80 .f32 :=
  View.ld w (Rect.unit ![i, 0, 0, 0] S1x1x2500x80.size (by revert i; decide))
/-- Image `i`'s regression outputs in a block. -/
def im2 {F : FTy → Type} (w : Vec F S8x1x4x2500 .f32) (i : Fin 8) : Vec F S1x1x4x2500 .f32 :=
  View.ld w (Rect.unit ![i, 0, 0, 0] S1x1x4x2500.size (by revert i; decide))
/-- Image `i`'s annotations. -/
def im4 {F : FTy → Type} (w : Vec F S8x100x6 .f32) (i : Fin 8) : Vec F S1x100x6 .f32 :=
  View.ld w (Rect.unit ![i, 0, 0] S1x100x6.size (by revert i; decide))
/-- Image `i`'s annotations, transposed. -/
def im5 {F : FTy → Type} (w : Vec F S8x6x100 .f32) (i : Fin 8) : Vec F S1x6x100 .f32 :=
  View.ld w (Rect.unit ![i, 0, 0] S1x6x100.size (by revert i; decide))

variable {F : FTy → Type} [FloatOps F] (m : (ℓ : Loc nD τ sig) → Buf (Elt F) ℓ)

/-- Image `i`'s instance loss over the block at grid point `t`. -/
def ilAt (c : Dev nD) (t : Fin cfg0.N) (i : Fin 8) : F .f32 :=
  ilL (im0 (iblk m c 0 t) i) (iblk m c 3 t) (im4 (iblk m c 4 t) i) (im5 (iblk m c 5 t) i)
/-- Image `i`'s class loss over the block at grid point `t`. -/
def clAt (c : Dev nD) (t : Fin cfg0.N) (i : Fin 8) : F .f32 :=
  clL (im1 (iblk m c 1 t) i) (iblk m c 3 t) (im4 (iblk m c 4 t) i) (im5 (iblk m c 5 t) i)
/-- Image `i`'s regression loss over the block at grid point `t`. -/
def rlAt (c : Dev nD) (t : Fin cfg0.N) (i : Fin 8) : F .f32 :=
  rlL (im2 (iblk m c 2 t) i) (iblk m c 3 t) (im4 (iblk m c 4 t) i) (im5 (iblk m c 5 t) i)
/-- Image `i`'s count of positive anchors in the block at grid point `t`. -/
def npAt (c : Dev nD) (t : Fin cfg0.N) (i : Fin 8) : F .f32 := npL (iblk m c 3 t) (im4 (iblk m c 4 t) i)
/-- Image `i`'s count of anchors positive for the instance loss in the block at grid point `t`. -/
def npiAt (c : Dev nD) (t : Fin cfg0.N) (i : Fin 8) : F .f32 := npiL (iblk m c 3 t) (im4 (iblk m c 4 t) i)

/-- What the point before left, and the stack of this point's numbers added to it. -/
def addStack (p : Vec F S8x1x1 .f32) (x : Fin 8 → F .f32) : FVec F S8x1x1 .f32 :=
  addf (shapeCast S8x1x1 p shapeCasts_S8x1x1_S8x1x1) (stack x)

set_option maxHeartbeats 2000000 in
/-- After the first grid point: the stacked instance losses. -/
theorem out_il_A (c : Dev nD) (t : Fin cfg0.N) (h0 : t.val % 8 = 0) (h1 : ¬1 ≤ t.val) :
    (outsAt0 m c t.val t.isLt).1 = stack (ilAt m c t) := by
  rw [outsAt0_A m c t h0 h1]
  frame_out
  rfl

set_option maxHeartbeats 2000000 in
/-- After a later grid point: the stacked instance losses added to what was there. -/
theorem out_il_B (c : Dev nD) (t : Fin cfg0.N) (h0 : ¬t.val % 8 = 0) (h1 : 1 ≤ t.val) :
    (outsAt0 m c t.val t.isLt).1 = addStack (outsAt0 m c (t.val - 1) (by omega)).1 (ilAt m c t) := by
  rw [outsAt0_B m c t h0 h1]
  frame_out
  rfl

set_option maxHeartbeats 2000000 in
/-- After the first grid point: the stacked class losses. -/
theorem out_cl_A (c : Dev nD) (t : Fin cfg0.N) (h0 : t.val % 8 = 0) (h1 : ¬1 ≤ t.val) :
    (outsAt0 m c t.val t.isLt).2.1 = stack (clAt m c t) := by
  rw [outsAt0_A m c t h0 h1]
  frame_out
  rfl

set_option maxHeartbeats 2000000 in
/-- After a later grid point: the stacked class losses added to what was there. -/
theorem out_cl_B (c : Dev nD) (t : Fin cfg0.N) (h0 : ¬t.val % 8 = 0) (h1 : 1 ≤ t.val) :
    (outsAt0 m c t.val t.isLt).2.1 = addStack (outsAt0 m c (t.val - 1) (by omega)).2.1 (clAt m c t) := by
  rw [outsAt0_B m c t h0 h1]
  frame_out
  rfl

set_option maxHeartbeats 2000000 in
/-- After the first grid point: the stacked regression losses. -/
theorem out_rl_A (c : Dev nD) (t : Fin cfg0.N) (h0 : t.val % 8 = 0) (h1 : ¬1 ≤ t.val) :
    (outsAt0 m c t.val t.isLt).2.2.1 = stack (rlAt m c t) := by
  rw [outsAt0_A m c t h0 h1]
  frame_out
  rfl

set_option maxHeartbeats 2000000 in
/-- After a later grid point: the stacked regression losses added to what was there. -/
theorem out_rl_B (c : Dev nD) (t : Fin cfg0.N) (h0 : ¬t.val % 8 = 0) (h1 : 1 ≤ t.val) :
    (outsAt0 m c t.val t.isLt).2.2.1 = addStack (outsAt0 m c (t.val - 1) (by omega)).2.2.1 (rlAt m c t) := by
  rw [outsAt0_B m c t h0 h1]
  frame_out
  rfl

set_option maxHeartbeats 2000000 in
/-- After the first grid point: the stacked counts of positive anchors. -/
theorem out_np_A (c : Dev nD) (t : Fin cfg0.N) (h0 : t.val % 8 = 0) (h1 : ¬1 ≤ t.val) :
    (outsAt0 m c t.val t.isLt).2.2.2.1 = stack (npAt m c t) := by
  rw [outsAt0_A m c t h0 h1]
  frame_out
  rfl

set_option maxHeartbeats 2000000 in
/-- After a later grid point: the stacked counts of positive anchors added to what was there. -/
theorem out_np_B (c : Dev nD) (t : Fin cfg0.N) (h0 : ¬t.val % 8 = 0) (h1 : 1 ≤ t.val) :
    (outsAt0 m c t.val t.isLt).2.2.2.1 = addStack (outsAt0 m c (t.val - 1) (by omega)).2.2.2.1 (npAt m c t) := by
  rw [outsAt0_B m c t h0 h1]
  frame_out
  rfl

set_option maxHeartbeats 2000000 in
/-- After the first grid point: the stacked counts of anchors positive for the instance loss. -/
theorem out_npi_A (c : Dev nD) (t : Fin cfg0.N) (h0 : t.val % 8 = 0) (h1 : ¬1 ≤ t.val) :
    (outsAt0 m c t.val t.isLt).2.2.2.2 = stack (npiAt m c t) := by
  rw [outsAt0_A m c t h0 h1]
  frame_out
  rfl

set_option maxHeartbeats 2000000 in
/-- After a later grid point: the stacked counts of anchors positive for the instance loss added to what was there. -/
theorem out_npi_B (c : Dev nD) (t : Fin cfg0.N) (h0 : ¬t.val % 8 = 0) (h1 : 1 ≤ t.val) :
    (outsAt0 m c t.val t.isLt).2.2.2.2 = addStack (outsAt0 m c (t.val - 1) (by omega)).2.2.2.2 (npiAt m c t) := by
  rw [outsAt0_B m c t h0 h1]
  frame_out
  rfl

end Cert.Block

end
-- ==== Proof.Kern.Row.lean ====
/-
  The kernel's numbers for one image and one block of 2500 anchors are sums over those anchors of the specification's
  losses of an anchor.
-/
module

public import proofs.«01_k».proof.Proof.Kern.Block
public import proofs.«01_k».proof.Proof.Math.Spec
public import Idealize.ShloMosaic.Lib.Pointwise

@[expose] public section

set_option maxRecDepth 16384

noncomputable section

namespace Cert.Block

open Idealize.ShloMosaic Idealize.ShloMosaic.TcCoe
open Cert.KernelIdeal Cert.KernelIdeal.Gen Cert.Focal

variable (x0 : Vec Ideal S1x1x1x2500 .f32) (x1 : Vec Ideal S1x1x2500x80 .f32) (x2 x3 : Vec Ideal S1x1x4x2500 .f32)
  (x4 : Vec Ideal S1x100x6 .f32) (x5 : Vec Ideal S1x6x100 .f32) (n : Fin 2500)

/-- Four numbers of an anchor of a block. -/
abbrev bA (x : Vec Ideal S1x1x4x2500 .f32) (n : Fin 2500) (k : Fin 4) : EReal := x (ix4 0 0 k n)
/-- The annotations of an image. -/
abbrev bG (g : Fin 100) (q : Fin 6) : EReal := x4 (ix3 0 g q)
/-- The instance probability of an anchor of a block. -/
abbrev bP : EReal := x0 (ix4 0 0 0 n)
/-- The class probabilities of an anchor of a block. -/
abbrev bQ (k : Fin 80) : EReal := x1 (ix4 0 0 n k)

/-- The anchors as the body reads them. -/
theorem ldA_at (k : Fin 4) : ldA x3 (ix2 k n) = bA x3 n k := by unfold ldA; pointwise
/-- The annotations as the body reads them. -/
theorem ldG_at (g : Fin 100) (q : Fin 6) : ldG x4 (ix2 g q) = bG x4 g q := by unfold ldG; pointwise
/-- The transposed annotations as the body reads them. -/
theorem ldT_at (g : Fin 100) (q : Fin 6) : ldT x5 (ix2 q g) = x5 (ix3 0 q g) := by unfold ldT; pointwise
/-- The instance probabilities as the body reads them. -/
theorem ldQ_at : ldQ x0 (ix2 0 n) = bP x0 n := by unfold ldQ; pointwise
/-- The class probabilities as the body reads them. -/
theorem ldP_at (k : Fin 80) : ldP x1 (ix2 n k) = bQ x1 n k := by unfold ldP; pointwise

/-- The overlaps. -/
theorem iou_at (g : Fin 100) : iouB (ldA x3) (ldG x4) (ix2 g n) = ov (bA x3 n) (bG x4) g := by
  unfold iouB
  pointwise
  simp only [ldA_at, ldG_at]
  rfl

/-- The best overlap. -/
theorem best_at : bestL x3 x4 (ix2 0 n) = best (ov (bA x3 n) (bG x4)) := by
  unfold bestL bestB
  pointwise
  simp only [iou_at]
  rfl

/-- The one-hot of the assigned annotation. -/
theorem one_at (g : Fin 100) : oneB (iouB (ldA x3) (ldG x4)) (bestL x3 x4) (ix2 g n)
    = if g = who (ov (bA x3 n) (bG x4)) then 1 else 0 := by
  rw [← one_hot]
  unfold oneB
  pointwise
  simp only [iou_at, best_at]
  rfl

/-- The assigned annotation. -/
theorem asg_at (h : ∀ g q, x5 (ix3 0 q g) = bG x4 g q) (q : Fin 6) :
    asgL x3 x4 x5 (ix2 q n) = mine (bA x3 n) (bG x4) q := by
  unfold asgL asgB
  pointwise
  simp only [one_at, ldT_at, h]
  exact pick (fun g => bG x4 g q) _

/-- One at a positive anchor. -/
theorem pos_at : posB (bestL x3 x4) (ix2 0 n) = hit 1056964608#32 (bA x3 n) (bG x4) := by
  unfold posB
  pointwise
  rw [best_at]
  exact sitofp_bit _

/-- The bit of an anchor positive for the instance loss. -/
theorem posi_at : posiB (bestL x3 x4) (ix2 0 n) = bit (C 1050253722#32 ≤ best (ov (bA x3 n) (bG x4))) := by
  unfold posiB
  pointwise
  rw [best_at]
  rfl

/-- The same as zeros and ones. -/
theorem posif_at : posifB (F := Ideal) (posiB (bestL x3 x4)) (ix2 0 n) = hit 1050253722#32 (bA x3 n) (bG x4) := by
  unfold posifB
  pointwise
  rw [posi_at]
  exact sitofp_bit _

/-- The sum of a row. -/
theorem sum_at (x : FVec Ideal S1x2500 .f32) : sumB x = ∑ n : Fin 2500, x (ix2 0 n) := by
  unfold sumB
  pointwise
  exact Fin.sum_univ_one _

/-- The count of positive anchors. -/
theorem np_at : npL x3 x4 = ∑ n, hit 1056964608#32 (bA x3 n) (bG x4) := by
  rw [npL, sum_at]
  exact Finset.sum_congr rfl fun n _ => pos_at x3 x4 n

/-- The count of anchors positive for the instance loss. -/
theorem npi_at : npiL x3 x4 = ∑ n, hit 1050253722#32 (bA x3 n) (bG x4) := by
  rw [npiL, sum_at]
  exact Finset.sum_congr rfl fun n _ => posif_at x3 x4 n

/-- The instance loss of an anchor. -/
theorem inst_at (h : ∀ g q, x5 (ix3 0 q g) = bG x4 g q) :
    instB (ldQ x0) (asgL x3 x4 x5) (posiB (bestL x3 x4)) (ix2 0 n) = rowI (bP x0 n) (bA x3 n) (bG x4) := by
  unfold rowI
  rw [← instK_eq_instR]
  unfold instB
  pointwise
  rw [asg_at x3 x4 x5 n h, posi_at, ldQ_at]
  simp only [bit, andi_bit, select_bit]
  rfl

/-- The instance loss of a block. -/
theorem il_at (h : ∀ g q, x5 (ix3 0 q g) = bG x4 g q) :
    ilL x0 x3 x4 x5 = ∑ n, rowI (bP x0 n) (bA x3 n) (bG x4) := by
  rw [ilL, sum_at]
  exact Finset.sum_congr rfl fun n _ => inst_at x0 x3 x4 x5 n h

/-- One term of the regression loss: the kernel multiplies by the distance twice. -/
theorem reg_at (t x p : FVec Ideal S1x2500 .f32) :
    regB t x p (ix2 0 n) = smooth (Focal.dist (t (ix2 0 n)) (x (ix2 0 n))) * p (ix2 0 n) := by
  unfold regB
  pointwise
  unfold smooth Focal.dist
  rw [mul_assoc]

/-- The vertical offset of the middles. -/
theorem dy_at (h : ∀ g q, x5 (ix3 0 q g) = bG x4 g q) :
    dyB (ldA x3) (asgL x3 x4 x5) (ix2 0 n) = tgt (bA x3 n) (mine (bA x3 n) (bG x4)) 0 := by
  unfold dyB
  pointwise
  simp only [asg_at x3 x4 x5 n h, ldA_at]
  rfl
/-- The horizontal offset of the middles. -/
theorem dx_at (h : ∀ g q, x5 (ix3 0 q g) = bG x4 g q) :
    dxB (ldA x3) (asgL x3 x4 x5) (ix2 0 n) = tgt (bA x3 n) (mine (bA x3 n) (bG x4)) 1 := by
  unfold dxB
  pointwise
  simp only [asg_at x3 x4 x5 n h, ldA_at]
  rfl
/-- The logarithm of the ratio of the heights. -/
theorem dh_at (h : ∀ g q, x5 (ix3 0 q g) = bG x4 g q) :
    dhB (ldA x3) (asgL x3 x4 x5) (ix2 0 n) = tgt (bA x3 n) (mine (bA x3 n) (bG x4)) 2 := by
  unfold dhB
  pointwise
  simp only [asg_at x3 x4 x5 n h, ldA_at]
  rfl
/-- The logarithm of the ratio of the widths. -/
theorem dw_at (h : ∀ g q, x5 (ix3 0 q g) = bG x4 g q) :
    dwB (ldA x3) (asgL x3 x4 x5) (ix2 0 n) = tgt (bA x3 n) (mine (bA x3 n) (bG x4)) 3 := by
  unfold dwB
  pointwise
  simp only [asg_at x3 x4 x5 n h, ldA_at]
  rfl

/-- A row of the regressions. -/
theorem row_at (k : Nat) (hk : k < 4) (hs) : extractStridedSlice S1x2500 ![k, 0] (ldA x2) hs (ix2 0 n) = bA x2 n ⟨k, hk⟩ := by
  interval_cases k <;> pointwise <;> exact ldA_at x2 n _

/-- The regression loss of a block. -/
theorem rl_at (h : ∀ g q, x5 (ix3 0 q g) = bG x4 g q) :
    rlL x2 x3 x4 x5 = ∑ n, rowR (bA x2 n) (bA x3 n) (bG x4) := by
  unfold rlL rlB rowR
  simp only [Fin.sum_univ_four, Finset.sum_add_distrib, sum_at, reg_at, dy_at x3 x4 x5 _ h, dx_at x3 x4 x5 _ h,
    dh_at x3 x4 x5 _ h, dw_at x3 x4 x5 _ h, pos_at, row_at x2 _ 0 (by decide), row_at x2 _ 1 (by decide),
    row_at x2 _ 2 (by decide), row_at x2 _ 3 (by decide)]
  pointwise
  rfl

/-- The class loss of a block, before the sum over the anchors of both parts is joined. -/
theorem cl_at (h : ∀ g q, x5 (ix3 0 q g) = bG x4 g q) (hl : ∀ g, IsClass (bG x4 g 4)) :
    clL x1 x3 x4 x5 = ∑ n, rowC (bQ x1 n) (bA x3 n) (bG x4) := by
  have hr : ∀ n, rowC (bQ x1 n) (bA x3 n) (bG x4) = clsK (best (ov (bA x3 n) (bG x4))) (mine (bA x3 n) (bG x4) 4) (bQ x1 n)
      (own (mine (bA x3 n) (bG x4) 4) (bQ x1 n)) := fun n => (clsK_eq_clsR _ _ _ (hl _)).symm
  simp only [hr, clsK, Finset.sum_add_distrib]
  have hc : ∀ n k, clipB (ldP x1) (ix2 n k) = clip (bQ x1 n k) := fun n k => by
    unfold clipB
    pointwise
    rw [ldP_at]
    rfl
  have ha : ∀ n, actB (bestL x3 x4) (posB (bestL x3 x4)) (ix2 0 n)
      = max (if C 1056964608#32 ≤ best (ov (bA x3 n) (bG x4)) then 1 else 0) (if best (ov (bA x3 n) (bG x4)) < C 1053609165#32 then 1 else 0) := fun n => by
    unfold actB
    pointwise
    rw [pos_at, best_at]
    exact congrArg (max _) (sitofp_bit _)
  have h0 : ∀ n, l0B (clipB (ldP x1)) (ix2 n 0) = ∑ k, C 1061158912#32 * (clip (bQ x1 n k) * clip (bQ x1 n k)) * (0 - Ideal.log (1 - clip (bQ x1 n k))) := fun n => by
    unfold l0B
    pointwise
    simp only [hc]
  have ho : ∀ n, ownB (clipB (ldP x1)) (asgL x3 x4 x5) (ix2 n 0) = own (mine (bA x3 n) (bG x4) 4) (bQ x1 n) := fun n => by
    unfold ownB
    pointwise
    simp only [hc, asg_at x3 x4 x5 n h]
    rfl
  unfold clL clB
  rw [sum_at]
  refine congrArg₂ (fun x y : EReal => x + y) ?_ ?_
  · pointwise
    simp only [ha, h0]
  · refine Finset.sum_congr rfl fun n _ => ?_
    unfold corrB
    pointwise
    rw [ho, pos_at]
    rfl

end Cert.Block

end
-- ==== Proof.Kern.Arrays.lean ====
/-
  The blocks the kernel's body reads, in terms of the arguments: block `b` of an argument holds anchors 2500 b to
  2500 b + 2499, and a block's numbers are sums over those anchors of the specification's losses of an anchor.
-/
module

public import proofs.«01_k».proof.Proof.Kern.Match
public import proofs.«01_k».proof.Proof.Kern.Row
public import Idealize.ShloMosaic.Lib.Claim
public import Idealize.ShloMosaic.Lib.Pointwise
public import Idealize.ShloMosaic.Lib.StableHlo.ReadAt

@[expose] public section

set_option maxRecDepth 16384

noncomputable section

namespace Cert.Block

open Idealize.ShloMosaic Idealize.ShloMosaic.TcCoe Idealize.SL.Sem
open Cert.KernelIdeal Cert.KernelIdeal.Gen Cert.Focal

variable (m : (ℓ : Loc nD τ sig) → Buf (Elt Ideal) ℓ)

/-- The anchor at place `n` of block `b`. -/
def at_ (b : Fin 8) (n : Fin 2500) : Fin 20000 := ⟨b * 2500 + n, by omega⟩

/-- The instance probabilities the kernel is given. -/
abbrev kP (c : Dev nD) (i : Fin 8) (n : Fin 20000) : EReal := (m ((c.tc : Thread nD τ).loc main_arg0) : Vec Ideal S8x20000x1 .f32) (ix3 i n 0)
/-- The class probabilities the kernel is given. -/
abbrev kQ (c : Dev nD) (i : Fin 8) (n : Fin 20000) (k : Fin 80) : EReal := (m ((c.tc : Thread nD τ).loc main_arg1) : Vec Ideal S8x20000x80 .f32) (ix3 i n k)
/-- The regression outputs the kernel is given. -/
abbrev kR (c : Dev nD) (i : Fin 8) (n : Fin 20000) (k : Fin 4) : EReal := (m ((c.tc : Thread nD τ).loc main_arg2) : Vec Ideal S8x20000x4 .f32) (ix3 i n k)
/-- The anchors the kernel is given. -/
abbrev kA (c : Dev nD) (n : Fin 20000) (k : Fin 4) : EReal := (m ((c.tc : Thread nD τ).loc main_arg3) : Vec Ideal S1x20000x4 .f32) (ix3 0 n k)
/-- The annotations the kernel is given. -/
abbrev kG (c : Dev nD) (i : Fin 8) (g : Fin 100) (q : Fin 6) : EReal := (m ((c.tc : Thread nD τ).loc main_arg4) : Vec Ideal S8x100x6 .f32) (ix3 i g q)

/-- The one stretch of operations before the grid, flattened, is itself. -/
theorem flat0 : ([hostOps0] : List (List (HloOp τ sig (Elt Ideal)))).flatten = hostOps0 := rfl

/-- The instance probabilities cut into blocks. -/
theorem V0_at (c : Dev nD) (i b : Fin 8) (n : Fin 2500) : V m c main_v0 (ix4 i b 0 n) = kP m c i (at_ b n) := by
  entry_read
  rw [flat0]
  after_reads_at
  rfl
/-- The class probabilities cut into blocks. -/
theorem V1_at (c : Dev nD) (i b : Fin 8) (n : Fin 2500) (k : Fin 80) : V m c main_v1 (ix4 i b n k) = kQ m c i (at_ b n) k := by
  entry_read
  rw [flat0]
  after_reads_at
  rfl
/-- The regression outputs cut into blocks, the four numbers first. -/
theorem V3_at (c : Dev nD) (i b : Fin 8) (k : Fin 4) (n : Fin 2500) : V m c main_v3 (ix4 i b k n) = kR m c i (at_ b n) k := by
  entry_read
  rw [flat0]
  after_reads_at
  rfl
/-- The anchors cut into blocks, the four numbers first. -/
theorem V5_at (c : Dev nD) (b : Fin 8) (k : Fin 4) (n : Fin 2500) : V m c main_v5 (ix4 0 b k n) = kA m c (at_ b n) k := by
  entry_read
  rw [flat0]
  after_reads_at
  rfl
/-- The annotations transposed. -/
theorem V6_at (c : Dev nD) (i : Fin 8) (q : Fin 6) (g : Fin 100) : V m c main_v6 (ix3 i q g) = kG m c i g q := by
  entry_read
  rw [flat0]
  after_reads_at
/-- The annotations as given. -/
theorem Vg_at (c : Dev nD) (i : Fin 8) (g : Fin 100) (q : Fin 6) : V m c main_arg4 (ix3 i g q) = kG m c i g q := by
  entry_read
  rw [flat0]
  after_reads_at

/-- Window 0 takes block `t` at point `t`. -/
theorem idx0 : ∀ t : Fin cfg0.N, win0_0.index t = (![0, t.val, 0, 0] : Fin 4 → Nat) := by decide +kernel
/-- Window 1 takes block `t` at point `t`. -/
theorem idx1 : ∀ t : Fin cfg0.N, win0_1.index t = (![0, t.val, 0, 0] : Fin 4 → Nat) := by decide +kernel
/-- Window 2 takes block `t` at point `t`. -/
theorem idx2 : ∀ t : Fin cfg0.N, win0_2.index t = (![0, t.val, 0, 0] : Fin 4 → Nat) := by decide +kernel
/-- Window 3 takes block `t` at point `t`. -/
theorem idx3 : ∀ t : Fin cfg0.N, win0_3.index t = (![0, t.val, 0, 0] : Fin 4 → Nat) := by decide +kernel
/-- Window 4 takes the whole array at every point. -/
theorem idx4 : ∀ t : Fin cfg0.N, win0_4.index t = (![0, 0, 0] : Fin 3 → Nat) := by decide +kernel
/-- Window 5 takes the whole array at every point. -/
theorem idx5 : ∀ t : Fin cfg0.N, win0_5.index t = (![0, 0, 0] : Fin 3 → Nat) := by decide +kernel

/-- Block `t` of the instance probabilities. -/
theorem blk0 (c : Dev nD) (t : Fin cfg0.N) (i : Fin 8) (n : Fin 2500) :
    iblk m c 0 t (ix4 i 0 0 n : Shape.Idx S8x1x1x2500) = V m c main_v0 (ix4 i (t.cast N_0) 0 n : Shape.Idx S8x8x1x2500) := by
  blk_ext [iblk, idx0]
  rfl
/-- Block `t` of the class probabilities. -/
theorem blk1 (c : Dev nD) (t : Fin cfg0.N) (i : Fin 8) (n : Fin 2500) (k : Fin 80) :
    iblk m c 1 t (ix4 i 0 n k : Shape.Idx S8x1x2500x80) = V m c main_v1 (ix4 i (t.cast N_0) n k : Shape.Idx S8x8x2500x80) := by
  blk_ext [iblk, idx1]
  rfl
/-- Block `t` of the regression outputs. -/
theorem blk2 (c : Dev nD) (t : Fin cfg0.N) (i : Fin 8) (k : Fin 4) (n : Fin 2500) :
    iblk m c 2 t (ix4 i 0 k n : Shape.Idx S8x1x4x2500) = V m c main_v3 (ix4 i (t.cast N_0) k n : Shape.Idx S8x8x4x2500) := by
  blk_ext [iblk, idx2]
  rfl
/-- Block `t` of the anchors. -/
theorem blk3 (c : Dev nD) (t : Fin cfg0.N) (k : Fin 4) (n : Fin 2500) :
    iblk m c 3 t (ix4 0 0 k n : Shape.Idx S1x1x4x2500) = V m c main_v5 (ix4 0 (t.cast N_0) k n : Shape.Idx S1x8x4x2500) := by
  blk_ext [iblk, idx3]
  rfl
/-- The annotations, at every point. -/
theorem blk4 (c : Dev nD) (t : Fin cfg0.N) (i : Fin 8) (g : Fin 100) (q : Fin 6) :
    iblk m c 4 t (ix3 i g q : Shape.Idx S8x100x6) = V m c main_arg4 (ix3 i g q : Shape.Idx S8x100x6) := by
  blk_ext [iblk, idx4]
/-- The transposed annotations, at every point. -/
theorem blk5 (c : Dev nD) (t : Fin cfg0.N) (i : Fin 8) (q : Fin 6) (g : Fin 100) :
    iblk m c 5 t (ix3 i q g : Shape.Idx S8x6x100) = V m c main_v6 (ix3 i q g : Shape.Idx S8x6x100) := by
  blk_ext [iblk, idx5]

/-- Image `i` of a block's instance probabilities. -/
theorem im0_at (w : Vec Ideal S8x1x1x2500 .f32) (i : Fin 8) (n : Fin 2500) : im0 w i (ix4 0 0 0 n) = w (ix4 i 0 0 n) := by
  refine congrArg w ?_
  idx_ext
/-- Image `i` of a block's class probabilities. -/
theorem im1_at (w : Vec Ideal S8x1x2500x80 .f32) (i : Fin 8) (n : Fin 2500) (k : Fin 80) : im1 w i (ix4 0 0 n k) = w (ix4 i 0 n k) := by
  refine congrArg w ?_
  idx_ext
/-- Image `i` of a block's regression outputs. -/
theorem im2_at (w : Vec Ideal S8x1x4x2500 .f32) (i : Fin 8) (k : Fin 4) (n : Fin 2500) : im2 w i (ix4 0 0 k n) = w (ix4 i 0 k n) := by
  refine congrArg w ?_
  idx_ext
/-- Image `i` of the annotations. -/
theorem im4_at (w : Vec Ideal S8x100x6 .f32) (i : Fin 8) (g : Fin 100) (q : Fin 6) : im4 w i (ix3 0 g q) = w (ix3 i g q) := by
  refine congrArg w ?_
  idx_ext
/-- Image `i` of the transposed annotations. -/
theorem im5_at (w : Vec Ideal S8x6x100 .f32) (i : Fin 8) (q : Fin 6) (g : Fin 100) : im5 w i (ix3 0 q g) = w (ix3 i q g) := by
  refine congrArg w ?_
  idx_ext

/-- A row of a block's instance probabilities. -/
theorem bP_at (c : Dev nD) (t : Fin cfg0.N) (i : Fin 8) (n : Fin 2500) :
    bP (im0 (iblk m c 0 t) i) n = kP m c i (at_ (t.cast N_0) n) :=
  (im0_at _ i n).trans ((blk0 m c t i n).trans (V0_at m c i _ n))
/-- A row of a block's class probabilities. -/
theorem bQ_at (c : Dev nD) (t : Fin cfg0.N) (i : Fin 8) (n : Fin 2500) :
    bQ (im1 (iblk m c 1 t) i) n = kQ m c i (at_ (t.cast N_0) n) :=
  funext fun k => (im1_at _ i n k).trans ((blk1 m c t i n k).trans (V1_at m c i _ n k))
/-- A row of a block's regression outputs. -/
theorem bR_at (c : Dev nD) (t : Fin cfg0.N) (i : Fin 8) (n : Fin 2500) :
    bA (im2 (iblk m c 2 t) i) n = kR m c i (at_ (t.cast N_0) n) :=
  funext fun k => (im2_at _ i k n).trans ((blk2 m c t i k n).trans (V3_at m c i _ k n))
/-- An anchor of a block. -/
theorem bA_at (c : Dev nD) (t : Fin cfg0.N) (n : Fin 2500) :
    bA (iblk m c 3 t) n = kA m c (at_ (t.cast N_0) n) :=
  funext fun k => (blk3 m c t k n).trans (V5_at m c _ k n)
/-- An image's annotations. -/
theorem bG_at (c : Dev nD) (t : Fin cfg0.N) (i : Fin 8) : bG (im4 (iblk m c 4 t) i) = kG m c i :=
  funext fun g => funext fun q => (im4_at _ i g q).trans ((blk4 m c t i g q).trans (Vg_at m c i g q))
/-- An image's transposed annotations are its annotations. -/
theorem bT_at (c : Dev nD) (t : Fin cfg0.N) (i : Fin 8) (g : Fin 100) (q : Fin 6) :
    im5 (iblk m c 5 t) i (ix3 0 q g) = bG (im4 (iblk m c 4 t) i) g q :=
  ((im5_at _ i q g).trans ((blk5 m c t i q g).trans (V6_at m c i q g))).trans (congrFun (congrFun (bG_at m c t i) g) q).symm

/-- A block's instance loss of an image. -/
theorem ilAt_eq (c : Dev nD) (t : Fin cfg0.N) (i : Fin 8) :
    ilAt m c t i = ∑ n, rowI (kP m c i (at_ (t.cast N_0) n)) (kA m c (at_ (t.cast N_0) n)) (kG m c i) := by
  refine (il_at _ _ _ _ (bT_at m c t i)).trans (Finset.sum_congr rfl fun n _ => ?_)
  rw [bP_at, bA_at, bG_at]
/-- A block's class loss of an image whose labels are classes. -/
theorem clAt_eq (c : Dev nD) (t : Fin cfg0.N) (i : Fin 8) (hl : ∀ g, IsClass (kG m c i g 4)) :
    clAt m c t i = ∑ n, rowC (kQ m c i (at_ (t.cast N_0) n)) (kA m c (at_ (t.cast N_0) n)) (kG m c i) := by
  refine (cl_at _ _ _ _ (bT_at m c t i) (by rw [bG_at]; exact hl)).trans (Finset.sum_congr rfl fun n _ => ?_)
  rw [bQ_at, bA_at, bG_at]
/-- A block's regression loss of an image. -/
theorem rlAt_eq (c : Dev nD) (t : Fin cfg0.N) (i : Fin 8) :
    rlAt m c t i = ∑ n, rowR (kR m c i (at_ (t.cast N_0) n)) (kA m c (at_ (t.cast N_0) n)) (kG m c i) := by
  refine (rl_at _ _ _ _ (bT_at m c t i)).trans (Finset.sum_congr rfl fun n _ => ?_)
  rw [bR_at, bA_at, bG_at]
/-- A block's count of an image's positive anchors. -/
theorem npAt_eq (c : Dev nD) (t : Fin cfg0.N) (i : Fin 8) :
    npAt m c t i = ∑ n, hit 1056964608#32 (kA m c (at_ (t.cast N_0) n)) (kG m c i) := by
  refine (np_at _ _).trans (Finset.sum_congr rfl fun n _ => ?_)
  rw [bA_at, bG_at]
/-- A block's count of an image's anchors positive for the instance loss. -/
theorem npiAt_eq (c : Dev nD) (t : Fin cfg0.N) (i : Fin 8) :
    npiAt m c t i = ∑ n, hit 1050253722#32 (kA m c (at_ (t.cast N_0) n)) (kG m c i) := by
  refine (npi_at _ _).trans (Finset.sum_congr rfl fun n _ => ?_)
  rw [bA_at, bG_at]

end Cert.Block

end
-- ==== Proof.Kern.Value.lean ====
/-
  The kernel's three results: its five accumulators hold the sums over all 20000 anchors when the grid has run, and the
  operations after the grid divide them and average over the images.
-/
module

public import proofs.«01_k».proof.Proof.Kern.Arrays

@[expose] public section

set_option maxRecDepth 16384

noncomputable section

namespace Cert.Block

open Idealize.ShloMosaic Idealize.ShloMosaic.TcCoe Idealize.SL.Sem
open Cert.KernelIdeal Cert.KernelIdeal.Gen Cert.Focal

variable (m : (ℓ : Loc nD τ sig) → Buf (Elt Ideal) ℓ)

/-- The stack of eight numbers holds image `i`'s at place `i`. -/
theorem stack_at (x : Fin 8 → Ideal .f32) (i : Fin 8) : stack x (ix3 i 0 0) = x i := by
  unfold stack
  fin_cases i <;> pointwise

/-- Adding a stack adds image `i`'s number at place `i`. -/
theorem addStack_at (p : Vec Ideal S8x1x1 .f32) (x : Fin 8 → Ideal .f32) (i : Fin 8) :
    addStack p x (ix3 i 0 0) = (p (ix3 i 0 0) + x i : EReal) := by
  unfold addStack
  refine (addf_apply _ _ _).trans ?_
  rw [stack_at, shapeCast_self]
  rfl

/-- An accumulator that starts at the first point's stack and gains every later point's ends as the sum of them all. -/
theorem grid_sum (f : (n : ℕ) → n < cfg0.N → Vec Ideal S8x1x1 .f32) (x : Fin cfg0.N → Fin 8 → Ideal .f32)
    (hA : ∀ t : Fin cfg0.N, t.val % 8 = 0 → ¬1 ≤ t.val → f t.val t.isLt = stack (x t))
    (hB : ∀ t : Fin cfg0.N, ¬t.val % 8 = 0 → 1 ≤ t.val → f t.val t.isLt = addStack (f (t.val - 1) (by omega)) (x t))
    (h : Fin 8 → Fin 20000 → EReal) (hx : ∀ t i, x t i = ∑ n, h i (at_ (t.cast N_0) n))
    (t : Fin cfg0.N) (hr : t.val % 8 = 7) (i : Fin 8) : f t.val t.isLt (ix3 i 0 0) = ∑ n, h i n := by
  have hN : cfg0.N = 8 := N_0
  have key := Pipeline.eq_sum_fin_of_reset_step_apply_of_flush (M := EReal) (fun n hn (i : Fin 8) => f n hn (ix3 i 0 0)) 8 (fun _ => 0)
    (fun t i => x t i)
    (fun t h0 i => by
      have := t.isLt
      show f t.val t.isLt (ix3 i 0 0) = 0 + x t i
      rw [hA t h0 (by omega), stack_at, zero_add])
    (fun t h0 i => by
      show f t.val t.isLt (ix3 i 0 0) = _
      rw [hB t h0 (by omega), addStack_at]) t hr i
  refine key.trans ?_
  rw [zero_add, Fin.sum_univ_tiles 8 2500 rfl (h i)]
  refine Finset.sum_congr rfl fun s _ => ?_
  rw [hx]
  refine Finset.sum_congr rfl fun n _ => congrArg (h i) (Fin.ext ?_)
  have := t.isLt
  show (8 * (t.val / 8) + s.val) * 2500 + n.val = s.val * 2500 + n.val
  rw [show t.val / 8 = 0 by omega]
  omega

/-- An accumulator array of the images' sums. -/
def acc (h : Fin 8 → Fin 20000 → EReal) : Vec Ideal S8x1x1 .f32 := fun j => ∑ n, h (j 0) n

/-- The array of the sums at an image. -/
theorem acc_at (h : Fin 8 → Fin 20000 → EReal) (i : Fin 8) : acc h (ix3 i 0 0) = ∑ n, h i n := rfl

/-- An index of an accumulator is an image and two zeros. -/
theorem idx_eta (y : Shape.Idx S8x1x1) : y = ix3 (y 0) 0 0 := by
  idx_ext

/-- A vector of eight that agrees with the sums at every image is the array of the sums. -/
theorem eq_acc (h : Fin 8 → Fin 20000 → EReal) (v : Vec Ideal S8x1x1 .f32) (hv : ∀ i, v (ix3 i 0 0) = ∑ n, h i n)
    (y z : Shape.Idx S8x1x1) (hyz : y = z) : v y = acc h z := by
  subst hyz
  rw [idx_eta y]
  exact hv (y 0)

/-- Output window 6 is the whole array at every point. -/
theorem idx6 : ∀ t : Fin cfg0.N, win0_6.index t = (![0, 0, 0] : Fin 3 → Nat) := by decide +kernel
/-- Output window 7 is the whole array at every point. -/
theorem idx7 : ∀ t : Fin cfg0.N, win0_7.index t = (![0, 0, 0] : Fin 3 → Nat) := by decide +kernel
/-- Output window 8 is the whole array at every point. -/
theorem idx8 : ∀ t : Fin cfg0.N, win0_8.index t = (![0, 0, 0] : Fin 3 → Nat) := by decide +kernel
/-- Output window 9 is the whole array at every point. -/
theorem idx9 : ∀ t : Fin cfg0.N, win0_9.index t = (![0, 0, 0] : Fin 3 → Nat) := by decide +kernel
/-- Output window 10 is the whole array at every point. -/
theorem idx10 : ∀ t : Fin cfg0.N, win0_10.index t = (![0, 0, 0] : Fin 3 → Nat) := by decide +kernel

/-- The instance losses an image ends with. -/
theorem last_il (c : Dev nD) (t : Fin cfg0.N) (hr : t.val % 8 = 7) (i : Fin 8) :
    (outsAt0 m c t.val t.isLt).1 (ix3 i 0 0) = ∑ n, rowI (kP m c i n) (kA m c n) (kG m c i) :=
  grid_sum (fun n hn => (outsAt0 m c n hn).1) (ilAt m c) (out_il_A m c) (out_il_B m c) (fun i n => rowI (kP m c i n) (kA m c n) (kG m c i)) (ilAt_eq m c) t hr i
/-- The instance losses when the grid has run. -/
theorem final_il (c : Dev nD) : (dats m 0 c).arrAt 6 cfg0.N = acc fun i n => rowI (kP m c i n) (kA m c n) (kG m c i) := by
  refine (dats m 0 c).arrAt_eq_of_covers 6 _ (by decide +kernel) fun t hf y => ?_
  blk_simp
  rw [after0_6]
  refine eq_acc (fun i n => rowI (kP m c i n) (kA m c n) (kG m c i)) (outsAt0 m c t.val t.isLt).1 (last_il m c t ((flush0_6 t).mp hf)) y ((win0_6.blk t).view.emb y) ?_
  blk_ext [idx6]

/-- The class losses, every label a class, an image ends with. -/
theorem last_cl (c : Dev nD) (hl : ∀ i g, IsClass (kG m c i g 4)) (t : Fin cfg0.N) (hr : t.val % 8 = 7) (i : Fin 8) :
    (outsAt0 m c t.val t.isLt).2.1 (ix3 i 0 0) = ∑ n, rowC (kQ m c i n) (kA m c n) (kG m c i) :=
  grid_sum (fun n hn => (outsAt0 m c n hn).2.1) (clAt m c) (out_cl_A m c) (out_cl_B m c) (fun i n => rowC (kQ m c i n) (kA m c n) (kG m c i)) (fun t i => clAt_eq m c t i (hl i)) t hr i
/-- The class losses, every label a class, when the grid has run. -/
theorem final_cl (c : Dev nD) (hl : ∀ i g, IsClass (kG m c i g 4)) : (dats m 0 c).arrAt 7 cfg0.N = acc fun i n => rowC (kQ m c i n) (kA m c n) (kG m c i) := by
  refine (dats m 0 c).arrAt_eq_of_covers 7 _ (by decide +kernel) fun t hf y => ?_
  blk_simp
  rw [after0_7]
  refine eq_acc (fun i n => rowC (kQ m c i n) (kA m c n) (kG m c i)) (outsAt0 m c t.val t.isLt).2.1 (last_cl m c hl t ((flush0_7 t).mp hf)) y ((win0_7.blk t).view.emb y) ?_
  blk_ext [idx7]

/-- The regression losses an image ends with. -/
theorem last_rl (c : Dev nD) (t : Fin cfg0.N) (hr : t.val % 8 = 7) (i : Fin 8) :
    (outsAt0 m c t.val t.isLt).2.2.1 (ix3 i 0 0) = ∑ n, rowR (kR m c i n) (kA m c n) (kG m c i) :=
  grid_sum (fun n hn => (outsAt0 m c n hn).2.2.1) (rlAt m c) (out_rl_A m c) (out_rl_B m c) (fun i n => rowR (kR m c i n) (kA m c n) (kG m c i)) (rlAt_eq m c) t hr i
/-- The regression losses when the grid has run. -/
theorem final_rl (c : Dev nD) : (dats m 0 c).arrAt 8 cfg0.N = acc fun i n => rowR (kR m c i n) (kA m c n) (kG m c i) := by
  refine (dats m 0 c).arrAt_eq_of_covers 8 _ (by decide +kernel) fun t hf y => ?_
  blk_simp
  rw [after0_8]
  refine eq_acc (fun i n => rowR (kR m c i n) (kA m c n) (kG m c i)) (outsAt0 m c t.val t.isLt).2.2.1 (last_rl m c t ((flush0_8 t).mp hf)) y ((win0_8.blk t).view.emb y) ?_
  blk_ext [idx8]

/-- The counts of positive anchors an image ends with. -/
theorem last_np (c : Dev nD) (t : Fin cfg0.N) (hr : t.val % 8 = 7) (i : Fin 8) :
    (outsAt0 m c t.val t.isLt).2.2.2.1 (ix3 i 0 0) = ∑ n, hit 1056964608#32 (kA m c n) (kG m c i) :=
  grid_sum (fun n hn => (outsAt0 m c n hn).2.2.2.1) (npAt m c) (out_np_A m c) (out_np_B m c) (fun i n => hit 1056964608#32 (kA m c n) (kG m c i)) (npAt_eq m c) t hr i
/-- The counts of positive anchors when the grid has run. -/
theorem final_np (c : Dev nD) : (dats m 0 c).arrAt 9 cfg0.N = acc fun i n => hit 1056964608#32 (kA m c n) (kG m c i) := by
  refine (dats m 0 c).arrAt_eq_of_covers 9 _ (by decide +kernel) fun t hf y => ?_
  blk_simp
  rw [after0_9]
  refine eq_acc (fun i n => hit 1056964608#32 (kA m c n) (kG m c i)) (outsAt0 m c t.val t.isLt).2.2.2.1 (last_np m c t ((flush0_9 t).mp hf)) y ((win0_9.blk t).view.emb y) ?_
  blk_ext [idx9]

/-- The counts of anchors positive for the instance loss an image ends with. -/
theorem last_npi (c : Dev nD) (t : Fin cfg0.N) (hr : t.val % 8 = 7) (i : Fin 8) :
    (outsAt0 m c t.val t.isLt).2.2.2.2 (ix3 i 0 0) = ∑ n, hit 1050253722#32 (kA m c n) (kG m c i) :=
  grid_sum (fun n hn => (outsAt0 m c n hn).2.2.2.2) (npiAt m c) (out_npi_A m c) (out_npi_B m c) (fun i n => hit 1050253722#32 (kA m c n) (kG m c i)) (npiAt_eq m c) t hr i
/-- The counts of anchors positive for the instance loss when the grid has run. -/
theorem final_npi (c : Dev nD) : (dats m 0 c).arrAt 10 cfg0.N = acc fun i n => hit 1050253722#32 (kA m c n) (kG m c i) := by
  refine (dats m 0 c).arrAt_eq_of_covers 10 _ (by decide +kernel) fun t hf y => ?_
  blk_simp
  rw [after0_10]
  refine eq_acc (fun i n => hit 1050253722#32 (kA m c n) (kG m c i)) (outsAt0 m c t.val t.isLt).2.2.2.2 (last_npi m c t ((flush0_10 t).mp hf)) y ((win0_10.blk t).view.emb y) ?_
  blk_ext [idx10]

/-! ## The operations after the grid -/

section Tail

variable (W : Valuation τ sig (Elt Ideal))

/-- An accumulator's number for an image. -/
def rd (x : Vec Ideal S8x1x1 .f32) (i : Fin 8) : EReal := x (ix3 i 0 0)
/-- The number of a result. -/
def rd1 (x : Vec Ideal S1 .f32) : EReal := x (ix1 0)

/-- A result is its one number. -/
theorem eq_const (x : Vec Ideal S1 .f32) (v : EReal) (h : rd1 x = v) : x = fun _ => v := by
  have hj : ∀ j : Shape.Idx S1, j = ix1 0 := fun j => by idx_ext
  exact funext fun j => (congrArg x (hj j)).trans h

/-- The instance loss made of the accumulators. -/
theorem tail_il : rd1 (StableHlo.after (hostOps1 : List (HloOp τ sig (Elt Ideal))) W (Proc.devRef .tc main_v19))
    = Ideal.div (∑ i : Fin 8, Ideal.div (rd (W (Proc.devRef .tc main_v7_0)) i) (max (rd (W (Proc.devRef .tc main_v7_4)) i) 1)) (C 1090519040#32) := by
  unfold rd1 rd
  after_reads_at
/-- The class loss made of the accumulators. -/
theorem tail_cl : rd1 (StableHlo.after (hostOps1 : List (HloOp τ sig (Elt Ideal))) W (Proc.devRef .tc main_v26))
    = Ideal.div (∑ i : Fin 8, Ideal.div (rd (W (Proc.devRef .tc main_v7_1)) i) (max (rd (W (Proc.devRef .tc main_v7_3)) i) 1)) (C 1090519040#32) := by
  unfold rd1 rd
  after_reads_at
/-- The regression loss made of the accumulators. -/
theorem tail_rl : rd1 (StableHlo.after (hostOps1 : List (HloOp τ sig (Elt Ideal))) W (Proc.devRef .tc main_v35))
    = Ideal.div (∑ i : Fin 8, Ideal.div (rd (W (Proc.devRef .tc main_v7_2)) i) (max (rd (W (Proc.devRef .tc main_v7_3)) i * C 1082130432#32) 1)) (C 1090519040#32) := by
  unfold rd1 rd
  after_reads_at

end Tail

/-! ## The run -/

/-- The windows stage distinct arrays. -/
theorem arr_inj : Function.Injective (Pipeline.arrRef spec0) := winFacts0.arr_inj

/-- The arrays the operations after the grid start from. -/
def tailV (c : Dev nD) : Valuation τ sig (Elt Ideal) :=
  Pipeline.withArrays spec0 c (V0 m c) fun w => (dats m 0 c).arrAt w cfg0.N

/-- Among them, each accumulator as the grid left it. -/
theorem tail_arr (c : Dev nD) (w : Fin 11) :
    tailV m c (Proc.devRef .tc (Pipeline.arrRef spec0 w)) = (dats m 0 c).arrAt w cfg0.N :=
  Pipeline.withArrays_arr spec0 arr_inj c (V0 m c) (fun w => (dats m 0 c).arrAt w cfg0.N) w

/-- The instance loss. -/
theorem res_il (c : Dev nD) :
    Pipeline.afterTail₀ cfgs (dats m) 0 (V0 m) [hostOps1] c main_v19
      = (fun _ => lossI (kP m c) (kA m c) (kG m c) : Vec Ideal S1 .f32) := by
  have hn : ∀ i, rd (tailV m c (Proc.devRef .tc main_v7_0)) i = _ := fun i => congrFun ((tail_arr m c 6).trans (final_il m c)) (ix3 i 0 0)
  have hd : ∀ i, rd (tailV m c (Proc.devRef .tc main_v7_4)) i = _ := fun i => congrFun ((tail_arr m c 10).trans (final_npi m c)) (ix3 i 0 0)
  refine eq_const _ _ ((tail_il (tailV m c)).trans ?_)
  simp only [hn, hd]
  rfl
/-- The class loss, every label a class. -/
theorem res_cl (c : Dev nD) (hl : ∀ i g, IsClass (kG m c i g 4)) :
    Pipeline.afterTail₀ cfgs (dats m) 0 (V0 m) [hostOps1] c main_v26
      = (fun _ => lossC (kQ m c) (kA m c) (kG m c) : Vec Ideal S1 .f32) := by
  have hn : ∀ i, rd (tailV m c (Proc.devRef .tc main_v7_1)) i = _ := fun i => congrFun ((tail_arr m c 7).trans (final_cl m c hl)) (ix3 i 0 0)
  have hd : ∀ i, rd (tailV m c (Proc.devRef .tc main_v7_3)) i = _ := fun i => congrFun ((tail_arr m c 9).trans (final_np m c)) (ix3 i 0 0)
  refine eq_const _ _ ((tail_cl (tailV m c)).trans ?_)
  simp only [hn, hd]
  rfl
/-- The regression loss. -/
theorem res_rl (c : Dev nD) :
    Pipeline.afterTail₀ cfgs (dats m) 0 (V0 m) [hostOps1] c main_v35
      = (fun _ => lossR (kR m c) (kA m c) (kG m c) : Vec Ideal S1 .f32) := by
  have hn : ∀ i, rd (tailV m c (Proc.devRef .tc main_v7_2)) i = _ := fun i => congrFun ((tail_arr m c 8).trans (final_rl m c)) (ix3 i 0 0)
  have hd : ∀ i, rd (tailV m c (Proc.devRef .tc main_v7_3)) i = _ := fun i => congrFun ((tail_arr m c 9).trans (final_np m c)) (ix3 i 0 0)
  refine eq_const _ _ ((tail_rl (tailV m c)).trans ?_)
  simp only [hn, hd]
  rfl

variable (ρ : Dev nD → PrngReg)

/-- The kernel's run, if every label is a class: the three losses of the specification, the arguments unchanged. -/
theorem run (hl : ∀ c i g, IsClass (kG m c i g 4)) :
    θ_run defs (onTc (τ := τ) (main (F := Ideal))) ⟨m, fun _ => 0, ρ⟩ (fun r => ∀ c : Dev nD,
      r.2.mem ((c.tc : Thread nD τ).loc main_v19) = (fun _ => lossI (kP m c) (kA m c) (kG m c) : Vec Ideal S1 .f32)
      ∧ r.2.mem ((c.tc : Thread nD τ).loc main_v26) = (fun _ => lossC (kQ m c) (kA m c) (kG m c) : Vec Ideal S1 .f32)
      ∧ r.2.mem ((c.tc : Thread nD τ).loc main_v35) = (fun _ => lossR (kR m c) (kA m c) (kG m c) : Vec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1.rest_eq c main_v19 (by decide)).trans (res_il m c)), ((h.1.rest_eq c main_v26 (by decide)).trans (res_cl m c (hl c))),
      ((h.1.rest_eq c main_v35 (by decide)).trans (res_rl m c)), h.2 c⟩)
    (θ_run_and (run_main m ρ) (unchanged m ρ))

end Cert.Block

end
-- ==== Proof.Labels.lean ====
/-
  The precondition: every label of every annotation, read as an integer, is one of the 80 classes.
-/
module

public import proofs.«01_k».proof.Defs
public import proofs.«01_k».proof.Proof.Math.Spec
public import Idealize.ShloMosaic.Lib.Pointwise

@[expose] public section

noncomputable section

namespace Cert.Pre_labels_are_classes

open Idealize.ShloMosaic Cert.Focal

/-- The side conditions of the operations the precondition is written with. -/
theorem facts : Facts := ⟨by decide, by decide, by decide⟩

/-- A word that is not negative and less than eighty, both compared as signed, is one of the 80 classes. -/
theorem word_class (w : BitVec 32)
    (h : IntOp.andi (IntOp.cmpi .sge w 0#32) (IntOp.cmpi .slt w 80#32) = 1#1) : ∃ k : Fin 80, w = BitVec.ofNat 32 k.val := by
  have hw : w.toNat < 80 := by
    by_contra hn
    have hx : ¬(0#32).sle w ∨ ¬w.slt 80#32 := by
      rw [BitVec.sle_iff_toInt_le, BitVec.slt_iff_toInt_lt, BitVec.toInt_eq_toNat_cond w]
      simp
      split_ifs <;> omega
    rcases hx with hx | hx <;> simp [IntOp.andi, IntOp.cmpi, hx] at h
  exact ⟨⟨w.toNat, hw⟩, by simp⟩

/-- The precondition read at an annotation. -/
theorem label [Facts] (x0 : FVec Ideal S8x20000x1 .f32) (x1 : FVec Ideal S8x20000x80 .f32) (x2 : FVec Ideal S8x20000x4 .f32)
    (x3 : FVec Ideal S1x20000x4 .f32) (x4 : FVec Ideal S8x100x6 .f32) (i : Fin 8) (g : Fin 100)
    (h : fn (F := Ideal) x0 x1 x2 x3 x4 (ix2 i g) = 1#1) : IsClass (x4 (ix3 i g 4)) := by
  refine word_class _ (Eq.trans ?_ h)
  unfold fn
  pointwise

end Cert.Pre_labels_are_classes

end
-- ==== Proof.lean ====
/-
  The certificate's claims: the kernel's and the reference's runs end with their arguments unchanged and every counter
  at zero, the idealized kernel is the kernel's own text, and over the extended reals the kernel's three losses are the
  reference's if every label is a class.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref.Results
public import proofs.«01_k».proof.Proof.Kern.Value
public import proofs.«01_k».proof.Proof.Labels
public import Idealize.ShloMosaic.Adequacy
public import Idealize.ShloMosaic.Init

@[expose] public section

noncomputable section

namespace Cert.Proof

open Idealize.ShloMosaic Idealize.SL.Sem

/-- The kernel ends in every fair execution, its arguments unchanged, its counters at zero. -/
theorem frame_kernel : Cert.quiescent_Kernel := fun m ρ _ => Cert.Kernel.Gen.frame m ρ

/-- The kernel read over the extended reals ends the same way. -/
theorem frame_kernelIdeal : Cert.quiescent_KernelIdeal := fun m ρ _ => Cert.KernelIdeal.Gen.frame m ρ

/-- The reference read over the extended reals ends the same way. -/
theorem frame_reference : Cert.quiescent_ReferenceIdeal := fun m ρ _ => Cert.RefRun.frame m ρ

/-- Under the precondition every label the kernel is given is a class. -/
theorem labels [Cert.Pre_labels_are_classes.Facts]
    (m : (ℓ : Loc Cert.KernelIdeal.nD Cert.KernelIdeal.τ Cert.KernelIdeal.sig) → Buf (Elt Ideal) ℓ)
    (h : Cert.Pre_KernelIdeal_labels_are_classes m) (c : Dev Cert.KernelIdeal.nD) (i : Fin 8) (g : Fin 100) :
    Cert.Focal.IsClass (Cert.Block.kG m c i g 4) :=
  Cert.Pre_labels_are_classes.label _ _ _ _ _ i g (congrFun (h c) (ix2 i g))

/-- Over the extended reals, if every label is a class, the kernel and the reference end with the same three losses. -/
theorem algebraic [Cert.Pre_labels_are_classes.Facts] :
    Cert.algebraic_KernelIdeal_ReferenceIdeal_pre_labels_are_classes := by
  intro m g m' g' hpre hagree
  refine ⟨_, _, _, Cert.Block.run m g (labels m hpre), ?_⟩
  refine (θ_run _ _ _).mono (fun r h c => ?_) (Cert.RefRun.results m' g')
  obtain ⟨e0, e1, e2, e3, e4⟩ := hagree c
  have hP : Cert.RefRun.argP (StableHlo.launchContents m' c) = Cert.Block.kP m c :=
    funext fun i => funext fun n => congrFun e0 (ix3 i n 0)
  have hQ : Cert.RefRun.argQ (StableHlo.launchContents m' c) = Cert.Block.kQ m c :=
    funext fun i => funext fun n => funext fun k => congrFun e1 (ix3 i n k)
  have hR : Cert.RefRun.argR (StableHlo.launchContents m' c) = Cert.Block.kR m c :=
    funext fun i => funext fun n => funext fun k => congrFun e2 (ix3 i n k)
  have hA : Cert.RefRun.argA (StableHlo.launchContents m' c) = Cert.Block.kA m c :=
    funext fun n => funext fun k => congrFun e3 (ix3 0 n k)
  have hG : Cert.RefRun.argG (StableHlo.launchContents m' c) = Cert.Block.kG m c :=
    funext fun i => funext fun n => funext fun k => congrFun e4 (ix3 i n k)
  have hc := h c
  rw [hP, hQ, hR, hA, hG] at hc
  exact hc

/-- All the claims together. -/
theorem claim : Cert.Claim :=
  ⟨Cert.Kernel.Gen.facts, Cert.KernelIdeal.Gen.facts, Cert.ReferenceIdeal.Gen.facts, Cert.Pre_labels_are_classes.facts,
    frame_kernel, frame_kernelIdeal, fun m ρ _ => Cert.KernelIdeal.Gen.frame m ρ, frame_reference,
    fun m ρ _ => Cert.RefRun.frame m ρ, trivial, @algebraic Cert.Pre_labels_are_classes.facts⟩

end Cert.Proof

end
